-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpReferenceIdeal (m : (ℓ : Loc Cert.MlpReferenceIdeal.nD Cert.MlpReferenceIdeal.τ Cert.MlpReferenceIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4))
      ∧ r.2.sem = fun _ => 0)

def quiescent_MlpReferenceIdeal [hMlpReferenceIdeal : Cert.MlpReferenceIdeal.Facts] : Prop :=
  ∀ (m : (ℓ : Loc Cert.MlpReferenceIdeal.nD Cert.MlpReferenceIdeal.τ Cert.MlpReferenceIdeal.sig) → Buf (Elt Ideal) ℓ) (g : Dev Cert.MlpReferenceIdeal.nD → PrngReg), Pre_MlpReferenceIdeal m →
    θ_run (Cert.MlpReferenceIdeal.defs (F := Ideal)) (onTc (τ := Cert.MlpReferenceIdeal.τ) (Cert.MlpReferenceIdeal.main (F := Ideal))) ⟨m, fun _ => 0, g⟩ (fun r => (∀ c : Dev Cert.MlpReferenceIdeal.nD,
      r.2.mem ((c.tc : Thread Cert.MlpReferenceIdeal.nD Cert.MlpReferenceIdeal.τ).loc Cert.MlpReferenceIdeal.main_arg0) = m ((c.tc : Thread Cert.MlpReferenceIdeal.nD Cert.MlpReferenceIdeal.τ).loc Cert.MlpReferenceIdeal.main_arg0)
      ∧ r.2.mem ((c.tc : Thread Cert.MlpReferenceIdeal.nD Cert.MlpReferenceIdeal.τ).loc Cert.MlpReferenceIdeal.main_arg1) = m ((c.tc : Thread Cert.MlpReferenceIdeal.nD Cert.MlpReferenceIdeal.τ).loc Cert.MlpReferenceIdeal.main_arg1)
      ∧ r.2.mem ((c.tc : Thread Cert.MlpReferenceIdeal.nD Cert.MlpReferenceIdeal.τ).loc Cert.MlpReferenceIdeal.main_arg2) = m ((c.tc : Thread Cert.MlpReferenceIdeal.nD Cert.MlpReferenceIdeal.τ).loc Cert.MlpReferenceIdeal.main_arg2)
      ∧ r.2.mem ((c.tc : Thread Cert.MlpReferenceIdeal.nD Cert.MlpReferenceIdeal.τ).loc Cert.MlpReferenceIdeal.main_arg3) = m ((c.tc : Thread Cert.MlpReferenceIdeal.nD Cert.MlpReferenceIdeal.τ).loc Cert.MlpReferenceIdeal.main_arg3)
      ∧ r.2.mem ((c.tc : Thread Cert.MlpReferenceIdeal.nD Cert.MlpReferenceIdeal.τ).loc Cert.MlpReferenceIdeal.main_arg4) = m ((c.tc : Thread Cert.MlpReferenceIdeal.nD Cert.MlpReferenceIdeal.τ).loc Cert.MlpReferenceIdeal.main_arg4))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6)
      ∧ r.2.mem ((c.tc : Thread Cert.MergeReferenceIdeal.nD Cert.MergeReferenceIdeal.τ).loc Cert.MergeReferenceIdeal.main_arg7) = m ((c.tc : Thread Cert.MergeReferenceIdeal.nD Cert.MergeReferenceIdeal.τ).loc Cert.MergeReferenceIdeal.main_arg7)
      ∧ r.2.mem ((c.tc : Thread Cert.MergeReferenceIdeal.nD Cert.MergeReferenceIdeal.τ).loc Cert.MergeReferenceIdeal.main_arg8) = m ((c.tc : Thread Cert.MergeReferenceIdeal.nD Cert.MergeReferenceIdeal.τ).loc Cert.MergeReferenceIdeal.main_arg8)
      ∧ r.2.mem ((c.tc : Thread Cert.MergeReferenceIdeal.nD Cert.MergeReferenceIdeal.τ).loc Cert.MergeReferenceIdeal.main_arg9) = m ((c.tc : Thread Cert.MergeReferenceIdeal.nD Cert.MergeReferenceIdeal.τ).loc Cert.MergeReferenceIdeal.main_arg9)
      ∧ r.2.mem ((c.tc : Thread Cert.MergeReferenceIdeal.nD Cert.MergeReferenceIdeal.τ).loc Cert.MergeReferenceIdeal.main_arg10) = m ((c.tc : Thread Cert.MergeReferenceIdeal.nD Cert.MergeReferenceIdeal.τ).loc Cert.MergeReferenceIdeal.main_arg10))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Mlp_MlpIdeal : Prop :=
  True

def algebraic_MlpIdeal_MlpReferenceIdeal [hMlpIdeal : Cert.MlpIdeal.Facts] [hMlpReferenceIdeal : Cert.MlpReferenceIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpReferenceIdeal.nD Cert.MlpReferenceIdeal.τ Cert.MlpReferenceIdeal.sig) → Buf (Elt Ideal) ℓ) (g' : Dev Cert.MlpReferenceIdeal.nD → PrngReg), Pre_MlpIdeal m →
    (∀ c : Dev Cert.MlpIdeal.nD,
      m' ((c.tc : Thread Cert.MlpReferenceIdeal.nD Cert.MlpReferenceIdeal.τ).loc Cert.MlpReferenceIdeal.main_arg0) = m ((c.tc : Thread Cert.MlpIdeal.nD Cert.MlpIdeal.τ).loc Cert.MlpIdeal.main_arg0)
      ∧ m' ((c.tc : Thread Cert.MlpReferenceIdeal.nD Cert.MlpReferenceIdeal.τ).loc Cert.MlpReferenceIdeal.main_arg1) = m ((c.tc : Thread Cert.MlpIdeal.nD Cert.MlpIdeal.τ).loc Cert.MlpIdeal.main_arg1)
      ∧ m' ((c.tc : Thread Cert.MlpReferenceIdeal.nD Cert.MlpReferenceIdeal.τ).loc Cert.MlpReferenceIdeal.main_arg2) = m ((c.tc : Thread Cert.MlpIdeal.nD Cert.MlpIdeal.τ).loc Cert.MlpIdeal.main_arg2)
      ∧ m' ((c.tc : Thread Cert.MlpReferenceIdeal.nD Cert.MlpReferenceIdeal.τ).loc Cert.MlpReferenceIdeal.main_arg3) = m ((c.tc : Thread Cert.MlpIdeal.nD Cert.MlpIdeal.τ).loc Cert.MlpIdeal.main_arg3)
      ∧ m' ((c.tc : Thread Cert.MlpReferenceIdeal.nD Cert.MlpReferenceIdeal.τ).loc Cert.MlpReferenceIdeal.main_arg4) = m ((c.tc : Thread Cert.MlpIdeal.nD Cert.MlpIdeal.τ).loc Cert.MlpIdeal.main_arg4)) →
    ∃ (v0 : (c : Dev Cert.MlpIdeal.nD) → Buf (Elt Ideal) ((c.tc : Thread Cert.MlpIdeal.nD Cert.MlpIdeal.τ).loc Cert.MlpIdeal.main_v8)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v8) = v0 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4))
      ∧ θ_run (Cert.MlpReferenceIdeal.defs (F := Ideal)) (onTc (τ := Cert.MlpReferenceIdeal.τ) (Cert.MlpReferenceIdeal.main (F := Ideal))) ⟨m', fun _ => 0, g'⟩ (fun r => ∀ c : Dev Cert.MlpReferenceIdeal.nD,
          r.2.mem ((c.tc : Thread Cert.MlpReferenceIdeal.nD Cert.MlpReferenceIdeal.τ).loc Cert.MlpReferenceIdeal.main_v34) = v0 c
          ∧ r.2.mem ((c.tc : Thread Cert.MlpReferenceIdeal.nD Cert.MlpReferenceIdeal.τ).loc Cert.MlpReferenceIdeal.main_arg0) = m' ((c.tc : Thread Cert.MlpReferenceIdeal.nD Cert.MlpReferenceIdeal.τ).loc Cert.MlpReferenceIdeal.main_arg0)
          ∧ r.2.mem ((c.tc : Thread Cert.MlpReferenceIdeal.nD Cert.MlpReferenceIdeal.τ).loc Cert.MlpReferenceIdeal.main_arg1) = m' ((c.tc : Thread Cert.MlpReferenceIdeal.nD Cert.MlpReferenceIdeal.τ).loc Cert.MlpReferenceIdeal.main_arg1)
          ∧ r.2.mem ((c.tc : Thread Cert.MlpReferenceIdeal.nD Cert.MlpReferenceIdeal.τ).loc Cert.MlpReferenceIdeal.main_arg2) = m' ((c.tc : Thread Cert.MlpReferenceIdeal.nD Cert.MlpReferenceIdeal.τ).loc Cert.MlpReferenceIdeal.main_arg2)
          ∧ r.2.mem ((c.tc : Thread Cert.MlpReferenceIdeal.nD Cert.MlpReferenceIdeal.τ).loc Cert.MlpReferenceIdeal.main_arg3) = m' ((c.tc : Thread Cert.MlpReferenceIdeal.nD Cert.MlpReferenceIdeal.τ).loc Cert.MlpReferenceIdeal.main_arg3)
          ∧ r.2.mem ((c.tc : Thread Cert.MlpReferenceIdeal.nD Cert.MlpReferenceIdeal.τ).loc Cert.MlpReferenceIdeal.main_arg4) = m' ((c.tc : Thread Cert.MlpReferenceIdeal.nD Cert.MlpReferenceIdeal.τ).loc Cert.MlpReferenceIdeal.main_arg4))

def preserves_Merge_MergeIdeal : Prop :=
  True

def algebraic_MergeIdeal_MergeReferenceIdeal [hMergeIdeal : Cert.MergeIdeal.Facts] [hMergeReferenceIdeal : Cert.MergeReferenceIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)
      ∧ m' ((c.tc : Thread Cert.MergeReferenceIdeal.nD Cert.MergeReferenceIdeal.τ).loc Cert.MergeReferenceIdeal.main_arg3) = m ((c.tc : Thread Cert.MergeIdeal.nD Cert.MergeIdeal.τ).loc Cert.MergeIdeal.main_arg3)
      ∧ m' ((c.tc : Thread Cert.MergeReferenceIdeal.nD Cert.MergeReferenceIdeal.τ).loc Cert.MergeReferenceIdeal.main_arg4) = m ((c.tc : Thread Cert.MergeIdeal.nD Cert.MergeIdeal.τ).loc Cert.MergeIdeal.main_arg4)
      ∧ m' ((c.tc : Thread Cert.MergeReferenceIdeal.nD Cert.MergeReferenceIdeal.τ).loc Cert.MergeReferenceIdeal.main_arg5) = m ((c.tc : Thread Cert.MergeIdeal.nD Cert.MergeIdeal.τ).loc Cert.MergeIdeal.main_arg5)
      ∧ m' ((c.tc : Thread Cert.MergeReferenceIdeal.nD Cert.MergeReferenceIdeal.τ).loc Cert.MergeReferenceIdeal.main_arg6) = m ((c.tc : Thread Cert.MergeIdeal.nD Cert.MergeIdeal.τ).loc Cert.MergeIdeal.main_arg6)
      ∧ m' ((c.tc : Thread Cert.MergeReferenceIdeal.nD Cert.MergeReferenceIdeal.τ).loc Cert.MergeReferenceIdeal.main_arg7) = m ((c.tc : Thread Cert.MergeIdeal.nD Cert.MergeIdeal.τ).loc Cert.MergeIdeal.main_arg7)
      ∧ m' ((c.tc : Thread Cert.MergeReferenceIdeal.nD Cert.MergeReferenceIdeal.τ).loc Cert.MergeReferenceIdeal.main_arg8) = m ((c.tc : Thread Cert.MergeIdeal.nD Cert.MergeIdeal.τ).loc Cert.MergeIdeal.main_arg8)
      ∧ m' ((c.tc : Thread Cert.MergeReferenceIdeal.nD Cert.MergeReferenceIdeal.τ).loc Cert.MergeReferenceIdeal.main_arg9) = m ((c.tc : Thread Cert.MergeIdeal.nD Cert.MergeIdeal.τ).loc Cert.MergeIdeal.main_arg9)
      ∧ m' ((c.tc : Thread Cert.MergeReferenceIdeal.nD Cert.MergeReferenceIdeal.τ).loc Cert.MergeReferenceIdeal.main_arg10) = m ((c.tc : Thread Cert.MergeIdeal.nD Cert.MergeIdeal.τ).loc Cert.MergeIdeal.main_arg10)) →
    ∃ (v0 : (c : Dev Cert.MergeIdeal.nD) → Buf (Elt Ideal) ((c.tc : Thread Cert.MergeIdeal.nD Cert.MergeIdeal.τ).loc Cert.MergeIdeal.main_v20)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v20) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v46) = v0 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6)
          ∧ r.2.mem ((c.tc : Thread Cert.MergeReferenceIdeal.nD Cert.MergeReferenceIdeal.τ).loc Cert.MergeReferenceIdeal.main_arg7) = m' ((c.tc : Thread Cert.MergeReferenceIdeal.nD Cert.MergeReferenceIdeal.τ).loc Cert.MergeReferenceIdeal.main_arg7)
          ∧ r.2.mem ((c.tc : Thread Cert.MergeReferenceIdeal.nD Cert.MergeReferenceIdeal.τ).loc Cert.MergeReferenceIdeal.main_arg8) = m' ((c.tc : Thread Cert.MergeReferenceIdeal.nD Cert.MergeReferenceIdeal.τ).loc Cert.MergeReferenceIdeal.main_arg8)
          ∧ r.2.mem ((c.tc : Thread Cert.MergeReferenceIdeal.nD Cert.MergeReferenceIdeal.τ).loc Cert.MergeReferenceIdeal.main_arg9) = m' ((c.tc : Thread Cert.MergeReferenceIdeal.nD Cert.MergeReferenceIdeal.τ).loc Cert.MergeReferenceIdeal.main_arg9)
          ∧ r.2.mem ((c.tc : Thread Cert.MergeReferenceIdeal.nD Cert.MergeReferenceIdeal.τ).loc Cert.MergeReferenceIdeal.main_arg10) = m' ((c.tc : Thread Cert.MergeReferenceIdeal.nD Cert.MergeReferenceIdeal.τ).loc Cert.MergeReferenceIdeal.main_arg10))

def Claim : Prop :=
  ∃ (hKernel : Cert.Kernel.Facts) (hKernelIdeal : Cert.KernelIdeal.Facts) (hReferenceIdeal : Cert.ReferenceIdeal.Facts) (hMlp : Cert.Mlp.Facts) (hMlpIdeal : Cert.MlpIdeal.Facts) (hMlpReferenceIdeal : Cert.MlpReferenceIdeal.Facts) (hMerge : Cert.Merge.Facts) (hMergeIdeal : Cert.MergeIdeal.Facts) (hMergeReferenceIdeal : Cert.MergeReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Mlp (hMlp := hMlp)
    ∧ quiescent_MlpIdeal (hMlpIdeal := hMlpIdeal)
    ∧ quiescent_MlpReferenceIdeal (hMlpReferenceIdeal := hMlpReferenceIdeal)
    ∧ quiescent_Merge (hMerge := hMerge)
    ∧ quiescent_MergeIdeal (hMergeIdeal := hMergeIdeal)
    ∧ quiescent_MergeReferenceIdeal (hMergeReferenceIdeal := hMergeReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Mlp_MlpIdeal
    ∧ algebraic_MlpIdeal_MlpReferenceIdeal (hMlpIdeal := hMlpIdeal) (hMlpReferenceIdeal := hMlpReferenceIdeal)
    ∧ preserves_Merge_MergeIdeal
    ∧ algebraic_MergeIdeal_MergeReferenceIdeal (hMergeIdeal := hMergeIdeal) (hMergeReferenceIdeal := hMergeReferenceIdeal)
-- ==== Pre_finite.lean ====
abbrev S2x8192x8x128 : Shape := ⟨4, ![2, 8192, 8, 128]⟩
abbrev S2x8192x8x256 : Shape := ⟨4, ![2, 8192, 8, 256]⟩
abbrev S1x2x8 : Shape := ⟨3, ![1, 2, 8]⟩
abbrev S_ : Shape := ⟨0, ![]⟩

class Facts : Prop where
  bcast_S_S2x8192x8x128 : S_.BroadcastsInDim S2x8192x8x128 (![] : Fin 0 → Fin S2x8192x8x128.rank)
  reducesTo_S2x8192x8x128_S_d0_1_2_3 : S2x8192x8x128.ReducesTo [0, 1, 2, 3] S_
  h_S_ : 0 < S_.numel
  bcast_S_S2x8192x8x256 : S_.BroadcastsInDim S2x8192x8x256 (![] : Fin 0 → Fin S2x8192x8x256.rank)
  reducesTo_S2x8192x8x256_S_d0_1_2_3 : S2x8192x8x256.ReducesTo [0, 1, 2, 3] S_

variable [Facts]

def fn {F : FTy → Type} [FloatOps F] (main_arg0 : FVec F S2x8192x8x128 .f32) (main_arg1 : FVec F S2x8192x8x128 .f32) (main_arg2 : FVec F S2x8192x8x256 .f32) (main_arg3 : FVec F S1x2x8 .f32) : IVec S_ 1 :=
  let main_v0 : FVec F S2x8192x8x128 .f32 := Host.absf main_arg0
  let main_cst : FVec F S_ .f32 := constant S_ .f32 0x7F800000#32
  let main_v1 : FVec F S2x8192x8x128 .f32 := broadcastInDim S2x8192x8x128 ![] bcast_S_S2x8192x8x128 main_cst
  let main_v2 : IVec S2x8192x8x128 1 := cmpf .olt main_v0 main_v1
  let main_c : IVec S_ 1 := constantI S_ 1 1#1
  let main_v3 : IVec S_ 1 := (fun x v => Host.reduce IntOp.andi x v reducesTo_S2x8192x8x128_S_d0_1_2_3 h_S_) main_v2 main_c
  let main_v4 : FVec F S2x8192x8x128 .f32 := Host.absf main_arg1
  let main_cst_0 : FVec F S_ .f32 := constant S_ .f32 0x7F800000#32
  let main_v5 : FVec F S2x8192x8x128 .f32 := broadcastInDim S2x8192x8x128 ![] bcast_S_S2x8192x8x128 main_cst_0
  let main_v6 : IVec S2x8192x8x128 1 := cmpf .olt main_v4 main_v5
  let main_c_1 : IVec S_ 1 := constantI S_ 1 1#1
  let main_v7 : IVec S_ 1 := (fun x v => Host.reduce IntOp.andi x v reducesTo_S2x8192x8x128_S_d0_1_2_3 h_S_) main_v6 main_c_1
  let main_v8 : IVec S_ 1 := andi main_v3 main_v7
  let main_v9 : FVec F S2x8192x8x256 .f32 := Host.absf main_arg2
  let main_cst_2 : FVec F S_ .f32 := constant S_ .f32 0x7F800000#32
  let main_v10 : FVec F S2x8192x8x256 .f32 := broadcastInDim S2x8192x8x256 ![] bcast_S_S2x8192x8x256 main_cst_2
  let main_v11 : IVec S2x8192x8x256 1 := cmpf .olt main_v9 main_v10
  let main_c_3 : IVec S_ 1 := constantI S_ 1 1#1
  let main_v12 : IVec S_ 1 := (fun x v => Host.reduce IntOp.andi x v reducesTo_S2x8192x8x256_S_d0_1_2_3 h_S_) main_v11 main_c_3
  let main_v13 : IVec S_ 1 := andi main_v8 main_v12
  main_v13
-- ==== Kernel.lean ====
abbrev S2x8192x8x128 : Shape := ⟨4, ![2, 8192, 8, 128]⟩
abbrev S2x8192x8x256 : Shape := ⟨4, ![2, 8192, 8, 256]⟩
abbrev S1x2x8 : Shape := ⟨3, ![1, 2, 8]⟩
abbrev S2x8x8192x128 : Shape := ⟨4, ![2, 8, 8192, 128]⟩
abbrev S2x8x128x8192 : Shape := ⟨4, ![2, 8, 128, 8192]⟩
abbrev S2x8x8192x256 : Shape := ⟨4, ![2, 8, 8192, 256]⟩
abbrev S2x8 : Shape := ⟨2, ![2, 8]⟩
abbrev S8x2 : Shape := ⟨2, ![8, 2]⟩
abbrev S8x2x1 : Shape := ⟨3, ![8, 2, 1]⟩
abbrev S8x2x256 : Shape := ⟨3, ![8, 2, 256]⟩
abbrev S1x2x256 : Shape := ⟨3, ![1, 2, 256]⟩
abbrev S1x1x8192x128 : Shape := ⟨4, ![1, 1, 8192, 128]⟩
abbrev S1x1x128x8192 : Shape := ⟨4, ![1, 1, 128, 8192]⟩
abbrev S1x1x8192x256 : Shape := ⟨4, ![1, 1, 8192, 256]⟩
abbrev S32x256x256 : Shape := ⟨3, ![32, 256, 256]⟩
abbrev S256x256 : Shape := ⟨2, ![256, 256]⟩
abbrev S2x128x256 : Shape := ⟨3, ![2, 128, 256]⟩
abbrev S2x256 : Shape := ⟨2, ![2, 256]⟩
abbrev S1x256 : Shape := ⟨2, ![1, 256]⟩
abbrev S256x128 : Shape := ⟨2, ![256, 128]⟩
abbrev S128x256 : Shape := ⟨2, ![128, 256]⟩
abbrev S1x128 : Shape := ⟨2, ![1, 128]⟩
abbrev S1x128x256 : Shape := ⟨3, ![1, 128, 256]⟩
abbrev S1x1x128x256 : Shape := ⟨4, ![1, 1, 128, 256]⟩
abbrev S1x1x256x256 : Shape := ⟨4, ![1, 1, 256, 256]⟩
abbrev S1x1x256x128 : Shape := ⟨4, ![1, 1, 256, 128]⟩
abbrev S1x256x256 : Shape := ⟨3, ![1, 256, 256]⟩
abbrev S256 : Shape := ⟨1, ![256]⟩
abbrev S256x1 : Shape := ⟨2, ![256, 1]⟩

abbrev nBuf : Space → Nat
  | .hbm => 15
  | .vmem => 14
  | .smem => 0
  | _ => 0

abbrev bufTy : (tb : Table) → Fin (tcTables nBuf tb) → BufTy
  | .hbm, ⟨0, _⟩ => ⟨S2x8192x8x128, .f32⟩
  | .hbm, ⟨1, _⟩ => ⟨S2x8192x8x128, .f32⟩
  | .hbm, ⟨2, _⟩ => ⟨S2x8192x8x256, .f32⟩
  | .hbm, ⟨3, _⟩ => ⟨S1x2x8, .f32⟩
  | .hbm, ⟨4, _⟩ => ⟨S2x8x8192x128, .f32⟩
  | .hbm, ⟨5, _⟩ => ⟨S2x8x8192x128, .bf16⟩
  | .hbm, ⟨6, _⟩ => ⟨S2x8x128x8192, .f32⟩
  | .hbm, ⟨7, _⟩ => ⟨S2x8x128x8192, .bf16⟩
  | .hbm, ⟨8, _⟩ => ⟨S2x8x8192x256, .f32⟩
  | .hbm, ⟨9, _⟩ => ⟨S2x8x8192x256, .bf16⟩
  | .hbm, ⟨10, _⟩ => ⟨S2x8, .f32⟩
  | .hbm, ⟨11, _⟩ => ⟨S8x2, .f32⟩
  | .hbm, ⟨12, _⟩ => ⟨S8x2x1, .f32⟩
  | .hbm, ⟨13, _⟩ => ⟨S8x2x256, .f32⟩
  | .hbm, ⟨14, _⟩ => ⟨S2x8x8192x256, .bf16⟩
  | .local _ .vmem, ⟨0, _⟩ => ⟨S1x2x256, .f32⟩
  | .local _ .vmem, ⟨1, _⟩ => ⟨S1x2x256, .f32⟩
  | .local _ .vmem, ⟨2, _⟩ => ⟨S1x1x8192x128, .bf16⟩
  | .local _ .vmem, ⟨3, _⟩ => ⟨S1x1x8192x128, .bf16⟩
  | .local _ .vmem, ⟨4, _⟩ => ⟨S1x1x128x8192, .bf16⟩
  | .local _ .vmem, ⟨5, _⟩ => ⟨S1x1x128x8192, .bf16⟩
  | .local _ .vmem, ⟨6, _⟩ => ⟨S1x1x8192x256, .bf16⟩
  | .local _ .vmem, ⟨7, _⟩ => ⟨S1x1x8192x256, .bf16⟩
  | .local _ .vmem, ⟨8, _⟩ => ⟨S1x1x8192x256, .bf16⟩
  | .local _ .vmem, ⟨9, _⟩ => ⟨S1x1x8192x256, .bf16⟩
  | .local _ .vmem, ⟨10, _⟩ => ⟨S32x256x256, .bf16⟩
  | .local _ .vmem, ⟨11, _⟩ => ⟨S256x256, .f32⟩
  | .local _ .vmem, ⟨12, _⟩ => ⟨S2x128x256, .bf16⟩
  | .local _ .vmem, ⟨13, _⟩ => ⟨S256x256, .bf16⟩
  | _, _ => ⟨S2x8192x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 8], ![false, false]⟩

def k0_off1 (c0_i32_19 : BitVec 32) : Fin 3 → Nat :=
  let c31_i32 : BitVec 32 := 31#32
  let v75 : BitVec 32 := Scalar.subi c31_i32 c0_i32_19
  let v82 : Index := Scalar.indexCast v75
  let c128_22 : Index := 128#32
  let c0_23 : Index := 0#32
  ![v82.toNat, 128, 0]
def k0_mult1 : BitVec 32 :=
  let c0_i32_19 : BitVec 32 := 0#32
  let c256_i32 : BitVec 32 := 256#32
  let v86 : BitVec 32 := Scalar.muli c0_i32_19 c256_i32
  v86
def k0_mult2 : BitVec 32 :=
  let c31_i32 : BitVec 32 := 31#32
  let c0_i32_19 : BitVec 32 := 0#32
  let v75 : BitVec 32 := Scalar.subi c31_i32 c0_i32_19
  let c256_i32_24 : BitVec 32 := 256#32
  let v88 : BitVec 32 := Scalar.muli v75 c256_i32_24
  v88
def k0_off2 (c0_i32_19 : BitVec 32) : Fin 4 → Nat :=
  let c0_25 : Index := 0#32
  let c0_26 : Index := 0#32
  let c0_27 : Index := 0#32
  let c256_i32 : BitVec 32 := 256#32
  let v86 : BitVec 32 := Scalar.muli c0_i32_19 c256_i32
  let v87 : BitVec 32 := v86
  let v90 : Index := Scalar.indexCast v87
  ![0, 0, 0, v90.toNat]
def k0_off3 (c0_i32_19 : BitVec 32) : Fin 4 → Nat :=
  let c0_31 : Index := 0#32
  let c0_32 : Index := 0#32
  let c0_33 : Index := 0#32
  let c31_i32 : BitVec 32 := 31#32
  let v75 : BitVec 32 := Scalar.subi c31_i32 c0_i32_19
  let c256_i32_24 : BitVec 32 := 256#32
  let v88 : BitVec 32 := Scalar.muli v75 c256_i32_24
  let v89 : BitVec 32 := v88
  let v96 : Index := Scalar.indexCast v89
  ![0, 0, 0, v96.toNat]
def k0_off4 (c0_i32_19 : BitVec 32) : Fin 4 → Nat :=
  let c0_37 : Index := 0#32
  let c0_38 : Index := 0#32
  let c256_i32 : BitVec 32 := 256#32
  let v86 : BitVec 32 := Scalar.muli c0_i32_19 c256_i32
  let v87 : BitVec 32 := v86
  let v102 : Index := Scalar.indexCast v87
  let c0_39 : Index := 0#32
  ![0, 0, v102.toNat, 0]
def k0_off5 (c0_i32_19 : BitVec 32) : Fin 4 → Nat :=
  let c0_41 : Index := 0#32
  let c0_42 : Index := 0#32
  let c31_i32 : BitVec 32 := 31#32
  let v75 : BitVec 32 := Scalar.subi c31_i32 c0_i32_19
  let c256_i32_24 : BitVec 32 := 256#32
  let v88 : BitVec 32 := Scalar.muli v75 c256_i32_24
  let v89 : BitVec 32 := v88
  let v106 : Index := Scalar.indexCast v89
  let c0_43 : Index := 0#32
  ![0, 0, v106.toNat, 0]
def k0_mult3 : BitVec 32 :=
  let c1_i32 : BitVec 32 := 1#32
  let c256_i32_50 : BitVec 32 := 256#32
  let v127 : BitVec 32 := Scalar.muli c1_i32 c256_i32_50
  v127
def k0_mult4 : BitVec 32 :=
  let c31_i32_45 : BitVec 32 := 31#32
  let c1_i32 : BitVec 32 := 1#32
  let v116 : BitVec 32 := Scalar.subi c31_i32_45 c1_i32
  let c256_i32_51 : BitVec 32 := 256#32
  let v129 : BitVec 32 := Scalar.muli v116 c256_i32_51
  v129
def k0_mult5 : BitVec 32 :=
  let c2_i32 : BitVec 32 := 2#32
  let c256_i32_77 : BitVec 32 := 256#32
  let v168 : BitVec 32 := Scalar.muli c2_i32 c256_i32_77
  v168
def k0_mult6 : BitVec 32 :=
  let c31_i32_72 : BitVec 32 := 31#32
  let c2_i32 : BitVec 32 := 2#32
  let v157 : BitVec 32 := Scalar.subi c31_i32_72 c2_i32
  let c256_i32_78 : BitVec 32 := 256#32
  let v170 : BitVec 32 := Scalar.muli v157 c256_i32_78
  v170
def k0_mult7 : BitVec 32 :=
  let c3_i32 : BitVec 32 := 3#32
  let c256_i32_104 : BitVec 32 := 256#32
  let v209 : BitVec 32 := Scalar.muli c3_i32 c256_i32_104
  v209
def k0_mult8 : BitVec 32 :=
  let c31_i32_99 : BitVec 32 := 31#32
  let c3_i32 : BitVec 32 := 3#32
  let v198 : BitVec 32 := Scalar.subi c31_i32_99 c3_i32
  let c256_i32_105 : BitVec 32 := 256#32
  let v211 : BitVec 32 := Scalar.muli v198 c256_i32_105
  v211
def k0_mult9 : BitVec 32 :=
  let c4_i32 : BitVec 32 := 4#32
  let c256_i32_131 : BitVec 32 := 256#32
  let v250 : BitVec 32 := Scalar.muli c4_i32 c256_i32_131
  v250
def k0_mult10 : BitVec 32 :=
  let c31_i32_126 : BitVec 32 := 31#32
  let c4_i32 : BitVec 32 := 4#32
  let v239 : BitVec 32 := Scalar.subi c31_i32_126 c4_i32
  let c256_i32_132 : BitVec 32 := 256#32
  let v252 : BitVec 32 := Scalar.muli v239 c256_i32_132
  v252
def k0_mult11 : BitVec 32 :=
  let c5_i32 : BitVec 32 := 5#32
  let c256_i32_158 : BitVec 32 := 256#32
  let v291 : BitVec 32 := Scalar.muli c5_i32 c256_i32_158
  v291
def k0_mult12 : BitVec 32 :=
  let c31_i32_153 : BitVec 32 := 31#32
  let c5_i32 : BitVec 32 := 5#32
  let v280 : BitVec 32 := Scalar.subi c31_i32_153 c5_i32
  let c256_i32_159 : BitVec 32 := 256#32
  let v293 : BitVec 32 := Scalar.muli v280 c256_i32_159
  v293
def k0_mult13 : BitVec 32 :=
  let c6_i32 : BitVec 32 := 6#32
  let c256_i32_185 : BitVec 32 := 256#32
  let v332 : BitVec 32 := Scalar.muli c6_i32 c256_i32_185
  v332
def k0_mult14 : BitVec 32 :=
  let c31_i32_180 : BitVec 32 := 31#32
  let c6_i32 : BitVec 32 := 6#32
  let v321 : BitVec 32 := Scalar.subi c31_i32_180 c6_i32
  let c256_i32_186 : BitVec 32 := 256#32
  let v334 : BitVec 32 := Scalar.muli v321 c256_i32_186
  v334
def k0_mult15 : BitVec 32 :=
  let c7_i32 : BitVec 32 := 7#32
  let c256_i32_212 : BitVec 32 := 256#32
  let v373 : BitVec 32 := Scalar.muli c7_i32 c256_i32_212
  v373
def k0_mult16 : BitVec 32 :=
  let c31_i32_207 : BitVec 32 := 31#32
  let c7_i32 : BitVec 32 := 7#32
  let v362 : BitVec 32 := Scalar.subi c31_i32_207 c7_i32
  let c256_i32_213 : BitVec 32 := 256#32
  let v375 : BitVec 32 := Scalar.muli v362 c256_i32_213
  v375
def k0_mult17 : BitVec 32 :=
  let c8_i32 : BitVec 32 := 8#32
  let c256_i32_239 : BitVec 32 := 256#32
  let v414 : BitVec 32 := Scalar.muli c8_i32 c256_i32_239
  v414
def k0_mult18 : BitVec 32 :=
  let c31_i32_234 : BitVec 32 := 31#32
  let c8_i32 : BitVec 32 := 8#32
  let v403 : BitVec 32 := Scalar.subi c31_i32_234 c8_i32
  let c256_i32_240 : BitVec 32 := 256#32
  let v416 : BitVec 32 := Scalar.muli v403 c256_i32_240
  v416
def k0_mult19 : BitVec 32 :=
  let c9_i32 : BitVec 32 := 9#32
  let c256_i32_266 : BitVec 32 := 256#32
  let v455 : BitVec 32 := Scalar.muli c9_i32 c256_i32_266
  v455
def k0_mult20 : BitVec 32 :=
  let c31_i32_261 : BitVec 32 := 31#32
  let c9_i32 : BitVec 32 := 9#32
  let v444 : BitVec 32 := Scalar.subi c31_i32_261 c9_i32
  let c256_i32_267 : BitVec 32 := 256#32
  let v457 : BitVec 32 := Scalar.muli v444 c256_i32_267
  v457
def k0_mult21 : BitVec 32 :=
  let c10_i32 : BitVec 32 := 10#32
  let c256_i32_293 : BitVec 32 := 256#32
  let v496 : BitVec 32 := Scalar.muli c10_i32 c256_i32_293
  v496
def k0_mult22 : BitVec 32 :=
  let c31_i32_288 : BitVec 32 := 31#32
  let c10_i32 : BitVec 32 := 10#32
  let v485 : BitVec 32 := Scalar.subi c31_i32_288 c10_i32
  let c256_i32_294 : BitVec 32 := 256#32
  let v498 : BitVec 32 := Scalar.muli v485 c256_i32_294
  v498
def k0_mult23 : BitVec 32 :=
  let c11_i32 : BitVec 32 := 11#32
  let c256_i32_320 : BitVec 32 := 256#32
  let v537 : BitVec 32 := Scalar.muli c11_i32 c256_i32_320
  v537
def k0_mult24 : BitVec 32 :=
  let c31_i32_315 : BitVec 32 := 31#32
  let c11_i32 : BitVec 32 := 11#32
  let v526 : BitVec 32 := Scalar.subi c31_i32_315 c11_i32
  let c256_i32_321 : BitVec 32 := 256#32
  let v539 : BitVec 32 := Scalar.muli v526 c256_i32_321
  v539
def k0_mult25 : BitVec 32 :=
  let c12_i32 : BitVec 32 := 12#32
  let c256_i32_347 : BitVec 32 := 256#32
  let v578 : BitVec 32 := Scalar.muli c12_i32 c256_i32_347
  v578
def k0_mult26 : BitVec 32 :=
  let c31_i32_342 : BitVec 32 := 31#32
  let c12_i32 : BitVec 32 := 12#32
  let v567 : BitVec 32 := Scalar.subi c31_i32_342 c12_i32
  let c256_i32_348 : BitVec 32 := 256#32
  let v580 : BitVec 32 := Scalar.muli v567 c256_i32_348
  v580
def k0_mult27 : BitVec 32 :=
  let c13_i32 : BitVec 32 := 13#32
  let c256_i32_374 : BitVec 32 := 256#32
  let v619 : BitVec 32 := Scalar.muli c13_i32 c256_i32_374
  v619
def k0_mult28 : BitVec 32 :=
  let c31_i32_369 : BitVec 32 := 31#32
  let c13_i32 : BitVec 32 := 13#32
  let v608 : BitVec 32 := Scalar.subi c31_i32_369 c13_i32
  let c256_i32_375 : BitVec 32 := 256#32
  let v621 : BitVec 32 := Scalar.muli v608 c256_i32_375
  v621
def k0_mult29 : BitVec 32 :=
  let c14_i32 : BitVec 32 := 14#32
  let c256_i32_401 : BitVec 32 := 256#32
  let v660 : BitVec 32 := Scalar.muli c14_i32 c256_i32_401
  v660
def k0_mult30 : BitVec 32 :=
  let c31_i32_396 : BitVec 32 := 31#32
  let c14_i32 : BitVec 32 := 14#32
  let v649 : BitVec 32 := Scalar.subi c31_i32_396 c14_i32
  let c256_i32_402 : BitVec 32 := 256#32
  let v662 : BitVec 32 := Scalar.muli v649 c256_i32_402
  v662
def k0_mult31 : BitVec 32 :=
  let c15_i32 : BitVec 32 := 15#32
  let c256_i32_428 : BitVec 32 := 256#32
  let v701 : BitVec 32 := Scalar.muli c15_i32 c256_i32_428
  v701
def k0_mult32 : BitVec 32 :=
  let c31_i32_423 : BitVec 32 := 31#32
  let c15_i32 : BitVec 32 := 15#32
  let v690 : BitVec 32 := Scalar.subi c31_i32_423 c15_i32
  let c256_i32_429 : BitVec 32 := 256#32
  let v703 : BitVec 32 := Scalar.muli v690 c256_i32_429
  v703
def k0_mult33 : BitVec 32 :=
  let c16_i32 : BitVec 32 := 16#32
  let c256_i32_455 : BitVec 32 := 256#32
  let v742 : BitVec 32 := Scalar.muli c16_i32 c256_i32_455
  v742
def k0_mult34 : BitVec 32 :=
  let c31_i32_450 : BitVec 32 := 31#32
  let c16_i32 : BitVec 32 := 16#32
  let v731 : BitVec 32 := Scalar.subi c31_i32_450 c16_i32
  let c256_i32_456 : BitVec 32 := 256#32
  let v744 : BitVec 32 := Scalar.muli v731 c256_i32_456
  v744
def k0_mult35 : BitVec 32 :=
  let c17_i32 : BitVec 32 := 17#32
  let c256_i32_482 : BitVec 32 := 256#32
  let v783 : BitVec 32 := Scalar.muli c17_i32 c256_i32_482
  v783
def k0_mult36 : BitVec 32 :=
  let c31_i32_477 : BitVec 32 := 31#32
  let c17_i32 : BitVec 32 := 17#32
  let v772 : BitVec 32 := Scalar.subi c31_i32_477 c17_i32
  let c256_i32_483 : BitVec 32 := 256#32
  let v785 : BitVec 32 := Scalar.muli v772 c256_i32_483
  v785
def k0_mult37 : BitVec 32 :=
  let c18_i32 : BitVec 32 := 18#32
  let c256_i32_509 : BitVec 32 := 256#32
  let v824 : BitVec 32 := Scalar.muli c18_i32 c256_i32_509
  v824
def k0_mult38 : BitVec 32 :=
  let c31_i32_504 : BitVec 32 := 31#32
  let c18_i32 : BitVec 32 := 18#32
  let v813 : BitVec 32 := Scalar.subi c31_i32_504 c18_i32
  let c256_i32_510 : BitVec 32 := 256#32
  let v826 : BitVec 32 := Scalar.muli v813 c256_i32_510
  v826
def k0_mult39 : BitVec 32 :=
  let c19_i32 : BitVec 32 := 19#32
  let c256_i32_536 : BitVec 32 := 256#32
  let v865 : BitVec 32 := Scalar.muli c19_i32 c256_i32_536
  v865
def k0_mult40 : BitVec 32 :=
  let c31_i32_531 : BitVec 32 := 31#32
  let c19_i32 : BitVec 32 := 19#32
  let v854 : BitVec 32 := Scalar.subi c31_i32_531 c19_i32
  let c256_i32_537 : BitVec 32 := 256#32
  let v867 : BitVec 32 := Scalar.muli v854 c256_i32_537
  v867
def k0_mult41 : BitVec 32 :=
  let c20_i32 : BitVec 32 := 20#32
  let c256_i32_563 : BitVec 32 := 256#32
  let v906 : BitVec 32 := Scalar.muli c20_i32 c256_i32_563
  v906
def k0_mult42 : BitVec 32 :=
  let c31_i32_558 : BitVec 32 := 31#32
  let c20_i32 : BitVec 32 := 20#32
  let v895 : BitVec 32 := Scalar.subi c31_i32_558 c20_i32
  let c256_i32_564 : BitVec 32 := 256#32
  let v908 : BitVec 32 := Scalar.muli v895 c256_i32_564
  v908
def k0_mult43 : BitVec 32 :=
  let c21_i32 : BitVec 32 := 21#32
  let c256_i32_590 : BitVec 32 := 256#32
  let v947 : BitVec 32 := Scalar.muli c21_i32 c256_i32_590
  v947
def k0_mult44 : BitVec 32 :=
  let c31_i32_585 : BitVec 32 := 31#32
  let c21_i32 : BitVec 32 := 21#32
  let v936 : BitVec 32 := Scalar.subi c31_i32_585 c21_i32
  let c256_i32_591 : BitVec 32 := 256#32
  let v949 : BitVec 32 := Scalar.muli v936 c256_i32_591
  v949
def k0_mult45 : BitVec 32 :=
  let c22_i32 : BitVec 32 := 22#32
  let c256_i32_617 : BitVec 32 := 256#32
  let v988 : BitVec 32 := Scalar.muli c22_i32 c256_i32_617
  v988
def k0_mult46 : BitVec 32 :=
  let c31_i32_612 : BitVec 32 := 31#32
  let c22_i32 : BitVec 32 := 22#32
  let v977 : BitVec 32 := Scalar.subi c31_i32_612 c22_i32
  let c256_i32_618 : BitVec 32 := 256#32
  let v990 : BitVec 32 := Scalar.muli v977 c256_i32_618
  v990
def k0_mult47 : BitVec 32 :=
  let c23_i32 : BitVec 32 := 23#32
  let c256_i32_644 : BitVec 32 := 256#32
  let v1029 : BitVec 32 := Scalar.muli c23_i32 c256_i32_644
  v1029
def k0_mult48 : BitVec 32 :=
  let c31_i32_639 : BitVec 32 := 31#32
  let c23_i32 : BitVec 32 := 23#32
  let v1018 : BitVec 32 := Scalar.subi c31_i32_639 c23_i32
  let c256_i32_645 : BitVec 32 := 256#32
  let v1031 : BitVec 32 := Scalar.muli v1018 c256_i32_645
  v1031
def k0_mult49 : BitVec 32 :=
  let c24_i32 : BitVec 32 := 24#32
  let c256_i32_671 : BitVec 32 := 256#32
  let v1070 : BitVec 32 := Scalar.muli c24_i32 c256_i32_671
  v1070
def k0_mult50 : BitVec 32 :=
  let c31_i32_666 : BitVec 32 := 31#32
  let c24_i32 : BitVec 32 := 24#32
  let v1059 : BitVec 32 := Scalar.subi c31_i32_666 c24_i32
  let c256_i32_672 : BitVec 32 := 256#32
  let v1072 : BitVec 32 := Scalar.muli v1059 c256_i32_672
  v1072
def k0_mult51 : BitVec 32 :=
  let c25_i32 : BitVec 32 := 25#32
  let c256_i32_698 : BitVec 32 := 256#32
  let v1111 : BitVec 32 := Scalar.muli c25_i32 c256_i32_698
  v1111
def k0_mult52 : BitVec 32 :=
  let c31_i32_693 : BitVec 32 := 31#32
  let c25_i32 : BitVec 32 := 25#32
  let v1100 : BitVec 32 := Scalar.subi c31_i32_693 c25_i32
  let c256_i32_699 : BitVec 32 := 256#32
  let v1113 : BitVec 32 := Scalar.muli v1100 c256_i32_699
  v1113
def k0_mult53 : BitVec 32 :=
  let c26_i32 : BitVec 32 := 26#32
  let c256_i32_725 : BitVec 32 := 256#32
  let v1152 : BitVec 32 := Scalar.muli c26_i32 c256_i32_725
  v1152
def k0_mult54 : BitVec 32 :=
  let c31_i32_720 : BitVec 32 := 31#32
  let c26_i32 : BitVec 32 := 26#32
  let v1141 : BitVec 32 := Scalar.subi c31_i32_720 c26_i32
  let c256_i32_726 : BitVec 32 := 256#32
  let v1154 : BitVec 32 := Scalar.muli v1141 c256_i32_726
  v1154
def k0_mult55 : BitVec 32 :=
  let c27_i32 : BitVec 32 := 27#32
  let c256_i32_752 : BitVec 32 := 256#32
  let v1193 : BitVec 32 := Scalar.muli c27_i32 c256_i32_752
  v1193
def k0_mult56 : BitVec 32 :=
  let c31_i32_747 : BitVec 32 := 31#32
  let c27_i32 : BitVec 32 := 27#32
  let v1182 : BitVec 32 := Scalar.subi c31_i32_747 c27_i32
  let c256_i32_753 : BitVec 32 := 256#32
  let v1195 : BitVec 32 := Scalar.muli v1182 c256_i32_753
  v1195
def k0_mult57 : BitVec 32 :=
  let c28_i32 : BitVec 32 := 28#32
  let c256_i32_779 : BitVec 32 := 256#32
  let v1234 : BitVec 32 := Scalar.muli c28_i32 c256_i32_779
  v1234
def k0_mult58 : BitVec 32 :=
  let c31_i32_774 : BitVec 32 := 31#32
  let c28_i32 : BitVec 32 := 28#32
  let v1223 : BitVec 32 := Scalar.subi c31_i32_774 c28_i32
  let c256_i32_780 : BitVec 32 := 256#32
  let v1236 : BitVec 32 := Scalar.muli v1223 c256_i32_780
  v1236
def k0_mult59 : BitVec 32 :=
  let c29_i32 : BitVec 32 := 29#32
  let c256_i32_806 : BitVec 32 := 256#32
  let v1275 : BitVec 32 := Scalar.muli c29_i32 c256_i32_806
  v1275
def k0_mult60 : BitVec 32 :=
  let c31_i32_801 : BitVec 32 := 31#32
  let c29_i32 : BitVec 32 := 29#32
  let v1264 : BitVec 32 := Scalar.subi c31_i32_801 c29_i32
  let c256_i32_807 : BitVec 32 := 256#32
  let v1277 : BitVec 32 := Scalar.muli v1264 c256_i32_807
  v1277
def k0_mult61 : BitVec 32 :=
  let c30_i32 : BitVec 32 := 30#32
  let c256_i32_833 : BitVec 32 := 256#32
  let v1316 : BitVec 32 := Scalar.muli c30_i32 c256_i32_833
  v1316
def k0_mult62 : BitVec 32 :=
  let c31_i32_828 : BitVec 32 := 31#32
  let c30_i32 : BitVec 32 := 30#32
  let v1305 : BitVec 32 := Scalar.subi c31_i32_828 c30_i32
  let c256_i32_834 : BitVec 32 := 256#32
  let v1318 : BitVec 32 := Scalar.muli v1305 c256_i32_834
  v1318
def k0_mult63 : BitVec 32 :=
  let c31_i32_855 : BitVec 32 := 31#32
  let c256_i32_861 : BitVec 32 := 256#32
  let v1357 : BitVec 32 := Scalar.muli c31_i32_855 c256_i32_861
  v1357
def k0_mult64 : BitVec 32 :=
  let c31_i32_856 : BitVec 32 := 31#32
  let c31_i32_855 : BitVec 32 := 31#32
  let v1346 : BitVec 32 := Scalar.subi c31_i32_856 c31_i32_855
  let c256_i32_862 : BitVec 32 := 256#32
  let v1359 : BitVec 32 := Scalar.muli v1346 c256_i32_862
  v1359
def k0_mult65 : BitVec 32 :=
  let c0_i32_883 : BitVec 32 := 0#32
  let c256_i32_884 : BitVec 32 := 256#32
  let v1387 : BitVec 32 := Scalar.muli c0_i32_883 c256_i32_884
  v1387
def k0_off6 (c0_i32_883 : BitVec 32) : Fin 4 → Nat :=
  let c0_885 : Index := 0#32
  let c0_886 : Index := 0#32
  let c256_i32_884 : BitVec 32 := 256#32
  let v1387 : BitVec 32 := Scalar.muli c0_i32_883 c256_i32_884
  let v1388 : BitVec 32 := v1387
  let v1389 : Index := Scalar.indexCast v1388
  let c0_887 : Index := 0#32
  ![0, 0, v1389.toNat, 0]
def k0_mult66 : BitVec 32 :=
  let c1_i32_911 : BitVec 32 := 1#32
  let c256_i32_912 : BitVec 32 := 256#32
  let v1432 : BitVec 32 := Scalar.muli c1_i32_911 c256_i32_912
  v1432
def k0_mult67 : BitVec 32 :=
  let c2_i32_939 : BitVec 32 := 2#32
  let c256_i32_940 : BitVec 32 := 256#32
  let v1477 : BitVec 32 := Scalar.muli c2_i32_939 c256_i32_940
  v1477
def k0_mult68 : BitVec 32 :=
  let c3_i32_967 : BitVec 32 := 3#32
  let c256_i32_968 : BitVec 32 := 256#32
  let v1522 : BitVec 32 := Scalar.muli c3_i32_967 c256_i32_968
  v1522
def k0_mult69 : BitVec 32 :=
  let c4_i32_995 : BitVec 32 := 4#32
  let c256_i32_996 : BitVec 32 := 256#32
  let v1567 : BitVec 32 := Scalar.muli c4_i32_995 c256_i32_996
  v1567
def k0_mult70 : BitVec 32 :=
  let c5_i32_1023 : BitVec 32 := 5#32
  let c256_i32_1024 : BitVec 32 := 256#32
  let v1612 : BitVec 32 := Scalar.muli c5_i32_1023 c256_i32_1024
  v1612
def k0_mult71 : BitVec 32 :=
  let c6_i32_1051 : BitVec 32 := 6#32
  let c256_i32_1052 : BitVec 32 := 256#32
  let v1657 : BitVec 32 := Scalar.muli c6_i32_1051 c256_i32_1052
  v1657
def k0_mult72 : BitVec 32 :=
  let c7_i32_1079 : BitVec 32 := 7#32
  let c256_i32_1080 : BitVec 32 := 256#32
  let v1702 : BitVec 32 := Scalar.muli c7_i32_1079 c256_i32_1080
  v1702
def k0_mult73 : BitVec 32 :=
  let c8_i32_1107 : BitVec 32 := 8#32
  let c256_i32_1108 : BitVec 32 := 256#32
  let v1747 : BitVec 32 := Scalar.muli c8_i32_1107 c256_i32_1108
  v1747
def k0_mult74 : BitVec 32 :=
  let c9_i32_1135 : BitVec 32 := 9#32
  let c256_i32_1136 : BitVec 32 := 256#32
  let v1792 : BitVec 32 := Scalar.muli c9_i32_1135 c256_i32_1136
  v1792
def k0_mult75 : BitVec 32 :=
  let c10_i32_1163 : BitVec 32 := 10#32
  let c256_i32_1164 : BitVec 32 := 256#32
  let v1837 : BitVec 32 := Scalar.muli c10_i32_1163 c256_i32_1164
  v1837
def k0_mult76 : BitVec 32 :=
  let c11_i32_1191 : BitVec 32 := 11#32
  let c256_i32_1192 : BitVec 32 := 256#32
  let v1882 : BitVec 32 := Scalar.muli c11_i32_1191 c256_i32_1192
  v1882
def k0_mult77 : BitVec 32 :=
  let c12_i32_1219 : BitVec 32 := 12#32
  let c256_i32_1220 : BitVec 32 := 256#32
  let v1927 : BitVec 32 := Scalar.muli c12_i32_1219 c256_i32_1220
  v1927
def k0_mult78 : BitVec 32 :=
  let c13_i32_1247 : BitVec 32 := 13#32
  let c256_i32_1248 : BitVec 32 := 256#32
  let v1972 : BitVec 32 := Scalar.muli c13_i32_1247 c256_i32_1248
  v1972
def k0_mult79 : BitVec 32 :=
  let c14_i32_1275 : BitVec 32 := 14#32
  let c256_i32_1276 : BitVec 32 := 256#32
  let v2017 : BitVec 32 := Scalar.muli c14_i32_1275 c256_i32_1276
  v2017
def k0_mult80 : BitVec 32 :=
  let c15_i32_1303 : BitVec 32 := 15#32
  let c256_i32_1304 : BitVec 32 := 256#32
  let v2062 : BitVec 32 := Scalar.muli c15_i32_1303 c256_i32_1304
  v2062
def k0_mult81 : BitVec 32 :=
  let c16_i32_1331 : BitVec 32 := 16#32
  let c256_i32_1332 : BitVec 32 := 256#32
  let v2107 : BitVec 32 := Scalar.muli c16_i32_1331 c256_i32_1332
  v2107
def k0_mult82 : BitVec 32 :=
  let c17_i32_1359 : BitVec 32 := 17#32
  let c256_i32_1360 : BitVec 32 := 256#32
  let v2152 : BitVec 32 := Scalar.muli c17_i32_1359 c256_i32_1360
  v2152
def k0_mult83 : BitVec 32 :=
  let c18_i32_1387 : BitVec 32 := 18#32
  let c256_i32_1388 : BitVec 32 := 256#32
  let v2197 : BitVec 32 := Scalar.muli c18_i32_1387 c256_i32_1388
  v2197
def k0_mult84 : BitVec 32 :=
  let c19_i32_1415 : BitVec 32 := 19#32
  let c256_i32_1416 : BitVec 32 := 256#32
  let v2242 : BitVec 32 := Scalar.muli c19_i32_1415 c256_i32_1416
  v2242
def k0_mult85 : BitVec 32 :=
  let c20_i32_1443 : BitVec 32 := 20#32
  let c256_i32_1444 : BitVec 32 := 256#32
  let v2287 : BitVec 32 := Scalar.muli c20_i32_1443 c256_i32_1444
  v2287
def k0_mult86 : BitVec 32 :=
  let c21_i32_1471 : BitVec 32 := 21#32
  let c256_i32_1472 : BitVec 32 := 256#32
  let v2332 : BitVec 32 := Scalar.muli c21_i32_1471 c256_i32_1472
  v2332
def k0_mult87 : BitVec 32 :=
  let c22_i32_1499 : BitVec 32 := 22#32
  let c256_i32_1500 : BitVec 32 := 256#32
  let v2377 : BitVec 32 := Scalar.muli c22_i32_1499 c256_i32_1500
  v2377
def k0_mult88 : BitVec 32 :=
  let c23_i32_1527 : BitVec 32 := 23#32
  let c256_i32_1528 : BitVec 32 := 256#32
  let v2422 : BitVec 32 := Scalar.muli c23_i32_1527 c256_i32_1528
  v2422
def k0_mult89 : BitVec 32 :=
  let c24_i32_1555 : BitVec 32 := 24#32
  let c256_i32_1556 : BitVec 32 := 256#32
  let v2467 : BitVec 32 := Scalar.muli c24_i32_1555 c256_i32_1556
  v2467
def k0_mult90 : BitVec 32 :=
  let c25_i32_1583 : BitVec 32 := 25#32
  let c256_i32_1584 : BitVec 32 := 256#32
  let v2512 : BitVec 32 := Scalar.muli c25_i32_1583 c256_i32_1584
  v2512
def k0_mult91 : BitVec 32 :=
  let c26_i32_1611 : BitVec 32 := 26#32
  let c256_i32_1612 : BitVec 32 := 256#32
  let v2557 : BitVec 32 := Scalar.muli c26_i32_1611 c256_i32_1612
  v2557
def k0_mult92 : BitVec 32 :=
  let c27_i32_1639 : BitVec 32 := 27#32
  let c256_i32_1640 : BitVec 32 := 256#32
  let v2602 : BitVec 32 := Scalar.muli c27_i32_1639 c256_i32_1640
  v2602
def k0_mult93 : BitVec 32 :=
  let c28_i32_1667 : BitVec 32 := 28#32
  let c256_i32_1668 : BitVec 32 := 256#32
  let v2647 : BitVec 32 := Scalar.muli c28_i32_1667 c256_i32_1668
  v2647
def k0_mult94 : BitVec 32 :=
  let c29_i32_1695 : BitVec 32 := 29#32
  let c256_i32_1696 : BitVec 32 := 256#32
  let v2692 : BitVec 32 := Scalar.muli c29_i32_1695 c256_i32_1696
  v2692
def k0_mult95 : BitVec 32 :=
  let c30_i32_1723 : BitVec 32 := 30#32
  let c256_i32_1724 : BitVec 32 := 256#32
  let v2737 : BitVec 32 := Scalar.muli c30_i32_1723 c256_i32_1724
  v2737
def k0_mult96 : BitVec 32 :=
  let c31_i32_1751 : BitVec 32 := 31#32
  let c256_i32_1752 : BitVec 32 := 256#32
  let v2782 : BitVec 32 := Scalar.muli c31_i32_1751 c256_i32_1752
  v2782
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x2x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x128x8192 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x8192x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x8192x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S2x8192x8x128 : Shape := ⟨4, ![2, 8192, 8, 128]⟩
abbrev S2x8192x8x256 : Shape := ⟨4, ![2, 8192, 8, 256]⟩
abbrev S1x2x8 : Shape := ⟨3, ![1, 2, 8]⟩
abbrev S2x8 : Shape := ⟨2, ![2, 8]⟩
abbrev S1x8 : Shape := ⟨2, ![1, 8]⟩
abbrev S8 : Shape := ⟨1, ![8]⟩
abbrev S2x8x8192x128 : Shape := ⟨4, ![2, 8, 8192, 128]⟩
abbrev S2x8x8192x256 : Shape := ⟨4, ![2, 8, 8192, 256]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S_ : Shape := ⟨0, ![]⟩
abbrev S1x8192x8192 : Shape := ⟨3, ![1, 8192, 8192]⟩
abbrev S8x1x1 : Shape := ⟨3, ![8, 1, 1]⟩
abbrev S8x8192x8192 : Shape := ⟨3, ![8, 8192, 8192]⟩
abbrev S2x8x8192x8192 : Shape := ⟨4, ![2, 8, 8192, 8192]⟩
abbrev S1x8x8192x8192 : Shape := ⟨4, ![1, 8, 8192, 8192]⟩
abbrev S2x8192x8 : Shape := ⟨3, ![2, 8192, 8]⟩
abbrev S2x8192x8x1 : Shape := ⟨4, ![2, 8192, 8, 1]⟩

abbrev nBuf : Space → Nat
  | .hbm => 109
  | .vmem => 0
  | .smem => 0
  | _ => 0

abbrev bufTy : (tb : Table) → Fin (tcTables nBuf tb) → BufTy
  | .hbm, ⟨0, _⟩ => ⟨S2x8192x8x128, .f32⟩
  | .hbm, ⟨1, _⟩ => ⟨S2x8192x8x128, .f32⟩
  | .hbm, ⟨2, _⟩ => ⟨S2x8192x8x256, .f32⟩
  | .hbm, ⟨3, _⟩ => ⟨S1x2x8, .f32⟩
  | .hbm, ⟨4, _⟩ => ⟨S2x8, .f32⟩
  | .hbm, ⟨5, _⟩ => ⟨S2x8, .f32⟩
  | .hbm, ⟨6, _⟩ => ⟨S2x8, .f32⟩
  | .hbm, ⟨7, _⟩ => ⟨S1x8, .f32⟩
  | .hbm, ⟨8, _⟩ => ⟨S8, .f32⟩
  | .hbm, ⟨9, _⟩ => ⟨S1x8, .f32⟩
  | .hbm, ⟨10, _⟩ => ⟨S8, .f32⟩
  | .hbm, ⟨11, _⟩ => ⟨S2x8x8192x128, .f32⟩
  | .hbm, ⟨12, _⟩ => ⟨S2x8x8192x128, .f32⟩
  | .hbm, ⟨13, _⟩ => ⟨S2x8x8192x256, .f32⟩
  | .hbm, ⟨14, _⟩ => ⟨S8192, .i32⟩
  | .hbm, ⟨15, _⟩ => ⟨S8192x1, .i32⟩
  | .hbm, ⟨16, _⟩ => ⟨S1x8192, .i32⟩
  | .hbm, ⟨17, _⟩ => ⟨S8192x8192, .i32⟩
  | .hbm, ⟨18, _⟩ => ⟨S8192x8192, .i32⟩
  | .hbm, ⟨19, _⟩ => ⟨S8192x8192, .i32⟩
  | .hbm, ⟨20, _⟩ => ⟨S_, .i32⟩
  | .hbm, ⟨21, _⟩ => ⟨S8192x8192, .i32⟩
  | .hbm, ⟨22, _⟩ => ⟨S8192x8192, .i1⟩
  | .hbm, ⟨23, _⟩ => ⟨S1x8192x8192, .i1⟩
  | .hbm, ⟨24, _⟩ => ⟨S8x1x1, .f32⟩
  | .hbm, ⟨25, _⟩ => ⟨S_, .i32⟩
  | .hbm, ⟨26, _⟩ => ⟨S8192x8192, .i32⟩
  | .hbm, ⟨27, _⟩ => ⟨S8192x8192, .i32⟩
  | .hbm, ⟨28, _⟩ => ⟨S1x8192x8192, .i32⟩
  | .hbm, ⟨29, _⟩ => ⟨S1x8192x8192, .f32⟩
  | .hbm, ⟨30, _⟩ => ⟨S8x8192x8192, .f32⟩
  | .hbm, ⟨31, _⟩ => ⟨S8x8192x8192, .f32⟩
  | .hbm, ⟨32, _⟩ => ⟨S8x8192x8192, .f32⟩
  | .hbm, ⟨33, _⟩ => ⟨S8x8192x8192, .f32⟩
  | .hbm, ⟨34, _⟩ => ⟨S_, .f32⟩
  | .hbm, ⟨35, _⟩ => ⟨S_, .f32⟩
  | .hbm, ⟨36, _⟩ => ⟨S8x8192x8192, .i1⟩
  | .hbm, ⟨37, _⟩ => ⟨S8x8192x8192, .f32⟩
  | .hbm, ⟨38, _⟩ => ⟨S8x8192x8192, .f32⟩
  | .hbm, ⟨39, _⟩ => ⟨S2x8x8192x8192, .f32⟩
  | .hbm, ⟨40, _⟩ => ⟨S1x8x8192x8192, .f32⟩
  | .hbm, ⟨41, _⟩ => ⟨S2x8x8192x8192, .f32⟩
  | .hbm, ⟨42, _⟩ => ⟨S2x8x8192x8192, .f32⟩
  | .hbm, ⟨43, _⟩ => ⟨S2x8x8192x256, .f32⟩
  | .hbm, ⟨44, _⟩ => ⟨S2x8192x8x256, .f32⟩
  | .hbm, ⟨45, _⟩ => ⟨S2x8192x8x128, .f32⟩
  | .hbm, ⟨46, _⟩ => ⟨S2x8x8192x128, .f32⟩
  | .hbm, ⟨47, _⟩ => ⟨S2x8192x8x128, .f32⟩
  | .hbm, ⟨48, _⟩ => ⟨S2x8x8192x128, .f32⟩
  | .hbm, ⟨49, _⟩ => ⟨S2x8192x8x256, .f32⟩
  | .hbm, ⟨50, _⟩ => ⟨S2x8x8192x256, .f32⟩
  | .hbm, ⟨51, _⟩ => ⟨S8192, .i32⟩
  | .hbm, ⟨52, _⟩ => ⟨S8192x1, .i32⟩
  | .hbm, ⟨53, _⟩ => ⟨S1x8192, .i32⟩
  | .hbm, ⟨54, _⟩ => ⟨S8192x8192, .i32⟩
  | .hbm, ⟨55, _⟩ => ⟨S8192x8192, .i32⟩
  | .hbm, ⟨56, _⟩ => ⟨S8192x8192, .i32⟩
  | .hbm, ⟨57, _⟩ => ⟨S_, .i32⟩
  | .hbm, ⟨58, _⟩ => ⟨S8192x8192, .i32⟩
  | .hbm, ⟨59, _⟩ => ⟨S8192x8192, .i1⟩
  | .hbm, ⟨60, _⟩ => ⟨S1x8192x8192, .i1⟩
  | .hbm, ⟨61, _⟩ => ⟨S8x1x1, .f32⟩
  | .hbm, ⟨62, _⟩ => ⟨S_, .i32⟩
  | .hbm, ⟨63, _⟩ => ⟨S8192x8192, .i32⟩
  | .hbm, ⟨64, _⟩ => ⟨S8192x8192, .i32⟩
  | .hbm, ⟨65, _⟩ => ⟨S1x8192x8192, .i32⟩
  | .hbm, ⟨66, _⟩ => ⟨S1x8192x8192, .f32⟩
  | .hbm, ⟨67, _⟩ => ⟨S8x8192x8192, .f32⟩
  | .hbm, ⟨68, _⟩ => ⟨S8x8192x8192, .f32⟩
  | .hbm, ⟨69, _⟩ => ⟨S8x8192x8192, .f32⟩
  | .hbm, ⟨70, _⟩ => ⟨S8x8192x8192, .f32⟩
  | .hbm, ⟨71, _⟩ => ⟨S_, .f32⟩
  | .hbm, ⟨72, _⟩ => ⟨S_, .f32⟩
  | .hbm, ⟨73, _⟩ => ⟨S8x8192x8192, .i1⟩
  | .hbm, ⟨74, _⟩ => ⟨S8x8192x8192, .f32⟩
  | .hbm, ⟨75, _⟩ => ⟨S8x8192x8192, .f32⟩
  | .hbm, ⟨76, _⟩ => ⟨S2x8x8192x8192, .f32⟩
  | .hbm, ⟨77, _⟩ => ⟨S1x8x8192x8192, .f32⟩
  | .hbm, ⟨78, _⟩ => ⟨S2x8x8192x8192, .f32⟩
  | .hbm, ⟨79, _⟩ => ⟨S2x8x8192x8192, .f32⟩
  | .hbm, ⟨80, _⟩ => ⟨S2x8x8192x256, .f32⟩
  | .hbm, ⟨81, _⟩ => ⟨S2x8192x8x256, .f32⟩
  | .hbm, ⟨82, _⟩ => ⟨S2x8192x8x256, .f32⟩
  | .hbm, ⟨83, _⟩ => ⟨S2x8192x8x256, .f32⟩
  | .hbm, ⟨84, _⟩ => ⟨S_, .f32⟩
  | .hbm, ⟨85, _⟩ => ⟨S2x8192x8, .f32⟩
  | .hbm, ⟨86, _⟩ => ⟨S2x8192x8x1, .f32⟩
  | .hbm, ⟨87, _⟩ => ⟨S_, .f32⟩
  | .hbm, ⟨88, _⟩ => ⟨S2x8192x8x1, .f32⟩
  | .hbm, ⟨89, _⟩ => ⟨S2x8192x8x1, .f32⟩
  | .hbm, ⟨90, _⟩ => ⟨S2x8192x8x256, .f32⟩
  | .hbm, ⟨91, _⟩ => ⟨S2x8192x8x256, .f32⟩
  | .hbm, ⟨92, _⟩ => ⟨S2x8192x8x256, .f32⟩
  | .hbm, ⟨93, _⟩ => ⟨S_, .f32⟩
  | .hbm, ⟨94, _⟩ => ⟨S2x8192x8, .f32⟩
  | .hbm, ⟨95, _⟩ => ⟨S2x8192x8x1, .f32⟩
  | .hbm, ⟨96, _⟩ => ⟨S_, .f32⟩
  | .hbm, ⟨97, _⟩ => ⟨S2x8192x8x1, .f32⟩
  | .hbm, ⟨98, _⟩ => ⟨S2x8192x8x1, .f32⟩
  | .hbm, ⟨99, _⟩ => ⟨S2x8192x8x256, .f32⟩
  | .hbm, ⟨100, _⟩ => ⟨S2x8192x8x256, .f32⟩
  | .hbm, ⟨101, _⟩ => ⟨S_, .f32⟩
  | .hbm, ⟨102, _⟩ => ⟨S2x8192x8x1, .f32⟩
  | .hbm, ⟨103, _⟩ => ⟨S2x8192x8x1, .f32⟩
  | .hbm, ⟨104, _⟩ => ⟨S2x8192x8x1, .f32⟩
  | .hbm, ⟨105, _⟩ => ⟨S2x8192x8x256, .f32⟩
  | .hbm, ⟨106, _⟩ => ⟨S2x8192x8x256, .f32⟩
  | .hbm, ⟨107, _⟩ => ⟨S2x8x8192x256, .f32⟩
  | .hbm, ⟨108, _⟩ => ⟨S2x8x8192x256, .bf16⟩
  | _, _ => ⟨S2x8192x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_c : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_c_0 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_cst : Ref sig .tc := ⟨.hbm, 34, rfl⟩
abbrev main_call0_v0 : Ref sig .tc := ⟨.hbm, 35, rfl⟩
abbrev main_call0_v1 : Ref sig .tc := ⟨.hbm, 36, rfl⟩
abbrev main_call0_v2 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_c_1 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_c_2 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_cst_3 : Ref sig .tc := ⟨.hbm, 71, rfl⟩
abbrev main_call1_v0 : Ref sig .tc := ⟨.hbm, 72, rfl⟩
abbrev main_call1_v1 : Ref sig .tc := ⟨.hbm, 73, rfl⟩
abbrev main_call1_v2 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_cst_4 : Ref sig .tc := ⟨.hbm, 84, rfl⟩
abbrev main_v68 : Ref sig .tc := ⟨.hbm, 85, rfl⟩
abbrev main_v69 : Ref sig .tc := ⟨.hbm, 86, rfl⟩
abbrev main_cst_5 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_cst_6 : Ref sig .tc := ⟨.hbm, 93, rfl⟩
abbrev main_v75 : Ref sig .tc := ⟨.hbm, 94, rfl⟩
abbrev main_v76 : Ref sig .tc := ⟨.hbm, 95, rfl⟩
abbrev main_cst_7 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_cst_8 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩

abbrev nD : Nat := 1
abbrev τ : Topo := Topo.v7x

variable {F : FTy → Type} [FloatOps F]
-- ==== Mlp.lean ====
abbrev S2x8192x1024 : Shape := ⟨3, ![2, 8192, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S1024 : Shape := ⟨1, ![1024]⟩
abbrev S16384x1024 : Shape := ⟨2, ![16384, 1024]⟩
abbrev S1024x4096 : Shape := ⟨2, ![1024, 4096]⟩
abbrev S4096x1024 : Shape := ⟨2, ![4096, 1024]⟩
abbrev S1024x1024 : Shape := ⟨2, ![1024, 1024]⟩
abbrev S256x1024 : Shape := ⟨2, ![256, 1024]⟩
abbrev S256 : Shape := ⟨1, ![256]⟩
abbrev S256x1 : Shape := ⟨2, ![256, 1]⟩

abbrev nBuf : Space → Nat
  | .hbm => 14
  | .vmem => 8
  | .smem => 0
  | _ => 0

abbrev bufTy : (tb : Table) → Fin (tcTables nBuf tb) → BufTy
  | .hbm, ⟨0, _⟩ => ⟨S2x8192x1024, .f32⟩
  | .hbm, ⟨1, _⟩ => ⟨S1x1024, .f32⟩
  | .hbm, ⟨2, _⟩ => ⟨S1x1024x4096, .f32⟩
  | .hbm, ⟨3, _⟩ => ⟨S1x4096x1024, .f32⟩
  | .hbm, ⟨4, _⟩ => ⟨S1024, .f32⟩
  | .hbm, ⟨5, _⟩ => ⟨S16384x1024, .f32⟩
  | .hbm, ⟨6, _⟩ => ⟨S1024, .f32⟩
  | .hbm, ⟨7, _⟩ => ⟨S1x1024, .f32⟩
  | .hbm, ⟨8, _⟩ => ⟨S1024x4096, .f32⟩
  | .hbm, ⟨9, _⟩ => ⟨S1024x4096, .bf16⟩
  | .hbm, ⟨10, _⟩ => ⟨S4096x1024, .f32⟩
  | .hbm, ⟨11, _⟩ => ⟨S4096x1024, .bf16⟩
  | .hbm, ⟨12, _⟩ => ⟨S1x1024, .f32⟩
  | .hbm, ⟨13, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x4096, .bf16⟩
  | .local _ .vmem, ⟨4, _⟩ => ⟨S4096x1024, .bf16⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== MlpReferenceIdeal.lean ====
abbrev S2x8192x1024 : Shape := ⟨3, ![2, 8192, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S1024 : Shape := ⟨1, ![1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S1024x4096 : Shape := ⟨2, ![1024, 4096]⟩
abbrev S2x8192x4096 : Shape := ⟨3, ![2, 8192, 4096]⟩
abbrev S4096x1024 : Shape := ⟨2, ![4096, 1024]⟩
abbrev S16384x1024 : Shape := ⟨2, ![16384, 1024]⟩

abbrev nBuf : Space → Nat
  | .hbm => 48
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1x1024, .f32⟩
  | .hbm, ⟨2, _⟩ => ⟨S1x1024x4096, .f32⟩
  | .hbm, ⟨3, _⟩ => ⟨S1x4096x1024, .f32⟩
  | .hbm, ⟨4, _⟩ => ⟨S1024, .f32⟩
  | .hbm, ⟨5, _⟩ => ⟨S1024, .f32⟩
  | .hbm, ⟨6, _⟩ => ⟨S2x8192x1024, .f32⟩
  | .hbm, ⟨7, _⟩ => ⟨S_, .f32⟩
  | .hbm, ⟨8, _⟩ => ⟨S2x8192, .f32⟩
  | .hbm, ⟨9, _⟩ => ⟨S2x8192x1, .f32⟩
  | .hbm, ⟨10, _⟩ => ⟨S_, .f32⟩
  | .hbm, ⟨11, _⟩ => ⟨S2x8192x1, .f32⟩
  | .hbm, ⟨12, _⟩ => ⟨S2x8192x1, .f32⟩
  | .hbm, ⟨13, _⟩ => ⟨S_, .f32⟩
  | .hbm, ⟨14, _⟩ => ⟨S2x8192x1, .f32⟩
  | .hbm, ⟨15, _⟩ => ⟨S2x8192x1, .f32⟩
  | .hbm, ⟨16, _⟩ => ⟨S2x8192x1, .f32⟩
  | .hbm, ⟨17, _⟩ => ⟨S2x8192x1024, .f32⟩
  | .hbm, ⟨18, _⟩ => ⟨S2x8192x1024, .f32⟩
  | .hbm, ⟨19, _⟩ => ⟨S1x1x1024, .f32⟩
  | .hbm, ⟨20, _⟩ => ⟨S2x8192x1024, .f32⟩
  | .hbm, ⟨21, _⟩ => ⟨S2x8192x1024, .f32⟩
  | .hbm, ⟨22, _⟩ => ⟨S1024x4096, .f32⟩
  | .hbm, ⟨23, _⟩ => ⟨S2x8192x4096, .f32⟩
  | .hbm, ⟨24, _⟩ => ⟨S_, .f32⟩
  | .hbm, ⟨25, _⟩ => ⟨S2x8192x4096, .f32⟩
  | .hbm, ⟨26, _⟩ => ⟨S2x8192x4096, .f32⟩
  | .hbm, ⟨27, _⟩ => ⟨S2x8192x4096, .f32⟩
  | .hbm, ⟨28, _⟩ => ⟨S4096x1024, .f32⟩
  | .hbm, ⟨29, _⟩ => ⟨S2x8192x1024, .f32⟩
  | .hbm, ⟨30, _⟩ => ⟨S2x8192x1024, .f32⟩
  | .hbm, ⟨31, _⟩ => ⟨S2x8192x1024, .f32⟩
  | .hbm, ⟨32, _⟩ => ⟨S_, .f32⟩
  | .hbm, ⟨33, _⟩ => ⟨S2x8192, .f32⟩
  | .hbm, ⟨34, _⟩ => ⟨S2x8192x1, .f32⟩
  | .hbm, ⟨35, _⟩ => ⟨S_, .f32⟩
  | .hbm, ⟨36, _⟩ => ⟨S2x8192x1, .f32⟩
  | .hbm, ⟨37, _⟩ => ⟨S2x8192x1, .f32⟩
  | .hbm, ⟨38, _⟩ => ⟨S_, .f32⟩
  | .hbm, ⟨39, _⟩ => ⟨S2x8192x1, .f32⟩
  | .hbm, ⟨40, _⟩ => ⟨S2x8192x1, .f32⟩
  | .hbm, ⟨41, _⟩ => ⟨S2x8192x1, .f32⟩
  | .hbm, ⟨42, _⟩ => ⟨S2x8192x1024, .f32⟩
  | .hbm, ⟨43, _⟩ => ⟨S2x8192x1024, .f32⟩
  | .hbm, ⟨44, _⟩ => ⟨S1x1x1024, .f32⟩
  | .hbm, ⟨45, _⟩ => ⟨S2x8192x1024, .f32⟩
  | .hbm, ⟨46, _⟩ => ⟨S2x8192x1024, .f32⟩
  | .hbm, ⟨47, _⟩ => ⟨S16384x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_call0_cst : Ref sig .tc := ⟨.hbm, 24, rfl⟩
abbrev main_call0_v0 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩

abbrev nD : Nat := 1
abbrev τ : Topo := Topo.v7x

variable {F : FTy → Type} [FloatOps F]
-- ==== Merge.lean ====
abbrev S2x8192x1024 : Shape := ⟨3, ![2, 8192, 1024]⟩
abbrev S2x8192x8x256 : Shape := ⟨4, ![2, 8192, 8, 256]⟩
abbrev S2x8192x2048 : Shape := ⟨3, ![2, 8192, 2048]⟩
abbrev S1x1024 : Shape := ⟨2, ![1, 1024]⟩
abbrev S1x2048x1024 : Shape := ⟨3, ![1, 2048, 1024]⟩
abbrev S1x1024x1024 : Shape := ⟨3, ![1, 1024, 1024]⟩
abbrev S16384x1024 : Shape := ⟨2, ![16384, 1024]⟩
abbrev S2x8x8192x256 : Shape := ⟨4, ![2, 8, 8192, 256]⟩
abbrev S131072x128 : Shape := ⟨2, ![131072, 128]⟩
abbrev S16384x2048 : Shape := ⟨2, ![16384, 2048]⟩
abbrev S1024 : Shape := ⟨1, ![1024]⟩
abbrev S2048x1024 : Shape := ⟨2, ![2048, 1024]⟩
abbrev S1024x1024 : Shape := ⟨2, ![1024, 1024]⟩
abbrev S512x1024 : Shape := ⟨2, ![512, 1024]⟩
abbrev S1x8x512x256 : Shape := ⟨4, ![1, 8, 512, 256]⟩
abbrev S4096x128 : Shape := ⟨2, ![4096, 128]⟩
abbrev S1x1x256x256 : Shape := ⟨4, ![1, 1, 256, 256]⟩
abbrev S256x256 : Shape := ⟨2, ![256, 256]⟩
abbrev S256x2048 : Shape := ⟨2, ![256, 2048]⟩
abbrev S256x1024 : Shape := ⟨2, ![256, 1024]⟩
abbrev S256x128 : Shape := ⟨2, ![256, 128]⟩
abbrev S256 : Shape := ⟨1, ![256]⟩
abbrev S256x1 : Shape := ⟨2, ![256, 1]⟩

abbrev nBuf : Space → Nat
  | .hbm => 32
  | .vmem => 20
  | .smem => 0
  | _ => 0

abbrev bufTy : (tb : Table) → Fin (tcTables nBuf tb) → BufTy
  | .hbm, ⟨0, _⟩ => ⟨S2x8192x1024, .f32⟩
  | .hbm, ⟨1, _⟩ => ⟨S2x8192x8x256, .f32⟩
  | .hbm, ⟨2, _⟩ => ⟨S2x8192x8x256, .f32⟩
  | .hbm, ⟨3, _⟩ => ⟨S2x8192x1024, .f32⟩
  | .hbm, ⟨4, _⟩ => ⟨S2x8192x2048, .f32⟩
  | .hbm, ⟨5, _⟩ => ⟨S1x1024, .f32⟩
  | .hbm, ⟨6, _⟩ => ⟨S1x1024, .f32⟩
  | .hbm, ⟨7, _⟩ => ⟨S1x2048x1024, .f32⟩
  | .hbm, ⟨8, _⟩ => ⟨S1x1024x1024, .f32⟩
  | .hbm, ⟨9, _⟩ => ⟨S1x1024, .f32⟩
  | .hbm, ⟨10, _⟩ => ⟨S1x1024x1024, .f32⟩
  | .hbm, ⟨11, _⟩ => ⟨S16384x1024, .f32⟩
  | .hbm, ⟨12, _⟩ => ⟨S2x8x8192x256, .f32⟩
  | .hbm, ⟨13, _⟩ => ⟨S2x8x8192x256, .bf16⟩
  | .hbm, ⟨14, _⟩ => ⟨S2x8x8192x256, .f32⟩
  | .hbm, ⟨15, _⟩ => ⟨S2x8x8192x256, .bf16⟩
  | .hbm, ⟨16, _⟩ => ⟨S131072x128, .f32⟩
  | .hbm, ⟨17, _⟩ => ⟨S16384x2048, .f32⟩
  | .hbm, ⟨18, _⟩ => ⟨S16384x2048, .bf16⟩
  | .hbm, ⟨19, _⟩ => ⟨S1024, .f32⟩
  | .hbm, ⟨20, _⟩ => ⟨S1x1024, .f32⟩
  | .hbm, ⟨21, _⟩ => ⟨S1024, .f32⟩
  | .hbm, ⟨22, _⟩ => ⟨S1x1024, .f32⟩
  | .hbm, ⟨23, _⟩ => ⟨S2048x1024, .f32⟩
  | .hbm, ⟨24, _⟩ => ⟨S2048x1024, .bf16⟩
  | .hbm, ⟨25, _⟩ => ⟨S1024x1024, .f32⟩
  | .hbm, ⟨26, _⟩ => ⟨S1024x1024, .bf16⟩
  | .hbm, ⟨27, _⟩ => ⟨S1024, .f32⟩
  | .hbm, ⟨28, _⟩ => ⟨S1x1024, .f32⟩
  | .hbm, ⟨29, _⟩ => ⟨S1024x1024, .f32⟩
  | .hbm, ⟨30, _⟩ => ⟨S1024x1024, .bf16⟩
  | .hbm, ⟨31, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x8x512x256, .bf16⟩
  | .local _ .vmem, ⟨3, _⟩ => ⟨S1x8x512x256, .bf16⟩
  | .local _ .vmem, ⟨4, _⟩ => ⟨S1x8x512x256, .bf16⟩
  | .local _ .vmem, ⟨5, _⟩ => ⟨S1x8x512x256, .bf16⟩
  | .local _ .vmem, ⟨6, _⟩ => ⟨S4096x128, .f32⟩
  | .local _ .vmem, ⟨7, _⟩ => ⟨S4096x128, .f32⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | .local _ .vmem, ⟨13, _⟩ => ⟨S1x1024, .f32⟩
  | .local _ .vmem, ⟨14, _⟩ => ⟨S2048x1024, .bf16⟩
  | .local _ .vmem, ⟨15, _⟩ => ⟨S1024x1024, .bf16⟩
  | .local _ .vmem, ⟨16, _⟩ => ⟨S1x1024, .f32⟩
  | .local _ .vmem, ⟨17, _⟩ => ⟨S1024x1024, .bf16⟩
  | .local _ .vmem, ⟨18, _⟩ => ⟨S512x1024, .f32⟩
  | .local _ .vmem, ⟨19, _⟩ => ⟨S512x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg12_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_2 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8x512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8x512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2048x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== MergeReferenceIdeal.lean ====
abbrev S2x8192x1024 : Shape := ⟨3, ![2, 8192, 1024]⟩
abbrev S2x8192x8x256 : Shape := ⟨4, ![2, 8192, 8, 256]⟩
abbrev S2x8192x2048 : Shape := ⟨3, ![2, 8192, 2048]⟩
abbrev S1x1024 : Shape := ⟨2, ![1, 1024]⟩
abbrev S1x2048x1024 : Shape := ⟨3, ![1, 2048, 1024]⟩
abbrev S1x1024x1024 : Shape := ⟨3, ![1, 1024, 1024]⟩
abbrev S2048x1024 : Shape := ⟨2, ![2048, 1024]⟩
abbrev S1024 : Shape := ⟨1, ![1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S1024x1024 : Shape := ⟨2, ![1024, 1024]⟩
abbrev S16384x1024 : Shape := ⟨2, ![16384, 1024]⟩

abbrev nBuf : Space → Nat
  | .hbm => 71
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x8192x8x256, .f32⟩
  | .hbm, ⟨2, _⟩ => ⟨S2x8192x8x256, .f32⟩
  | .hbm, ⟨3, _⟩ => ⟨S2x8192x1024, .f32⟩
  | .hbm, ⟨4, _⟩ => ⟨S2x8192x2048, .f32⟩
  | .hbm, ⟨5, _⟩ => ⟨S1x1024, .f32⟩
  | .hbm, ⟨6, _⟩ => ⟨S1x1024, .f32⟩
  | .hbm, ⟨7, _⟩ => ⟨S1x2048x1024, .f32⟩
  | .hbm, ⟨8, _⟩ => ⟨S1x1024x1024, .f32⟩
  | .hbm, ⟨9, _⟩ => ⟨S1x1024, .f32⟩
  | .hbm, ⟨10, _⟩ => ⟨S1x1024x1024, .f32⟩
  | .hbm, ⟨11, _⟩ => ⟨S2x8192x2048, .f32⟩
  | .hbm, ⟨12, _⟩ => ⟨S2x8192x2048, .f32⟩
  | .hbm, ⟨13, _⟩ => ⟨S2x8192x2048, .f32⟩
  | .hbm, ⟨14, _⟩ => ⟨S2048x1024, .f32⟩
  | .hbm, ⟨15, _⟩ => ⟨S2x8192x1024, .f32⟩
  | .hbm, ⟨16, _⟩ => ⟨S1024, .f32⟩
  | .hbm, ⟨17, _⟩ => ⟨S1024, .f32⟩
  | .hbm, ⟨18, _⟩ => ⟨S_, .f32⟩
  | .hbm, ⟨19, _⟩ => ⟨S2x8192, .f32⟩
  | .hbm, ⟨20, _⟩ => ⟨S2x8192x1, .f32⟩
  | .hbm, ⟨21, _⟩ => ⟨S_, .f32⟩
  | .hbm, ⟨22, _⟩ => ⟨S2x8192x1, .f32⟩
  | .hbm, ⟨23, _⟩ => ⟨S2x8192x1, .f32⟩
  | .hbm, ⟨24, _⟩ => ⟨S2x8192x1024, .f32⟩
  | .hbm, ⟨25, _⟩ => ⟨S2x8192x1024, .f32⟩
  | .hbm, ⟨26, _⟩ => ⟨S2x8192x1024, .f32⟩
  | .hbm, ⟨27, _⟩ => ⟨S_, .f32⟩
  | .hbm, ⟨28, _⟩ => ⟨S2x8192, .f32⟩
  | .hbm, ⟨29, _⟩ => ⟨S2x8192x1, .f32⟩
  | .hbm, ⟨30, _⟩ => ⟨S_, .f32⟩
  | .hbm, ⟨31, _⟩ => ⟨S2x8192x1, .f32⟩
  | .hbm, ⟨32, _⟩ => ⟨S2x8192x1, .f32⟩
  | .hbm, ⟨33, _⟩ => ⟨S2x8192x1024, .f32⟩
  | .hbm, ⟨34, _⟩ => ⟨S2x8192x1024, .f32⟩
  | .hbm, ⟨35, _⟩ => ⟨S_, .f32⟩
  | .hbm, ⟨36, _⟩ => ⟨S2x8192x1, .f32⟩
  | .hbm, ⟨37, _⟩ => ⟨S2x8192x1, .f32⟩
  | .hbm, ⟨38, _⟩ => ⟨S2x8192x1, .f32⟩
  | .hbm, ⟨39, _⟩ => ⟨S2x8192x1024, .f32⟩
  | .hbm, ⟨40, _⟩ => ⟨S2x8192x1024, .f32⟩
  | .hbm, ⟨41, _⟩ => ⟨S1x1x1024, .f32⟩
  | .hbm, ⟨42, _⟩ => ⟨S2x8192x1024, .f32⟩
  | .hbm, ⟨43, _⟩ => ⟨S2x8192x1024, .f32⟩
  | .hbm, ⟨44, _⟩ => ⟨S1x1x1024, .f32⟩
  | .hbm, ⟨45, _⟩ => ⟨S2x8192x1024, .f32⟩
  | .hbm, ⟨46, _⟩ => ⟨S2x8192x1024, .f32⟩
  | .hbm, ⟨47, _⟩ => ⟨S2x8192x1024, .f32⟩
  | .hbm, ⟨48, _⟩ => ⟨S2x8192x1024, .f32⟩
  | .hbm, ⟨49, _⟩ => ⟨S_, .f32⟩
  | .hbm, ⟨50, _⟩ => ⟨S2x8192x1024, .f32⟩
  | .hbm, ⟨51, _⟩ => ⟨S2x8192x1024, .f32⟩
  | .hbm, ⟨52, _⟩ => ⟨S_, .f32⟩
  | .hbm, ⟨53, _⟩ => ⟨S2x8192x1024, .f32⟩
  | .hbm, ⟨54, _⟩ => ⟨S2x8192x1024, .f32⟩
  | .hbm, ⟨55, _⟩ => ⟨S2x8192x1024, .f32⟩
  | .hbm, ⟨56, _⟩ => ⟨S1024x1024, .f32⟩
  | .hbm, ⟨57, _⟩ => ⟨S2x8192x1024, .f32⟩
  | .hbm, ⟨58, _⟩ => ⟨S1024, .f32⟩
  | .hbm, ⟨59, _⟩ => ⟨S1x1x1024, .f32⟩
  | .hbm, ⟨60, _⟩ => ⟨S2x8192x1024, .f32⟩
  | .hbm, ⟨61, _⟩ => ⟨S2x8192x1024, .f32⟩
  | .hbm, ⟨62, _⟩ => ⟨S2x8192x1024, .f32⟩
  | .hbm, ⟨63, _⟩ => ⟨S2x8192x1024, .f32⟩
  | .hbm, ⟨64, _⟩ => ⟨S2x8192x1024, .f32⟩
  | .hbm, ⟨65, _⟩ => ⟨S2x8192x1024, .f32⟩
  | .hbm, ⟨66, _⟩ => ⟨S2x8192x1024, .f32⟩
  | .hbm, ⟨67, _⟩ => ⟨S1024x1024, .f32⟩
  | .hbm, ⟨68, _⟩ => ⟨S2x8192x1024, .f32⟩
  | .hbm, ⟨69, _⟩ => ⟨S2x8192x1024, .f32⟩
  | .hbm, ⟨70, _⟩ => ⟨S16384x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_cst_0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_v15 : Ref sig .tc := ⟨.hbm, 29, rfl⟩
abbrev main_cst_2 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_3 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_call0_v0 : Ref sig .tc := ⟨.hbm, 47, rfl⟩
abbrev main_call0_v1 : Ref sig .tc := ⟨.hbm, 48, rfl⟩
abbrev main_call0_cst : Ref sig .tc := ⟨.hbm, 49, rfl⟩
abbrev main_call0_v2 : Ref sig .tc := ⟨.hbm, 50, rfl⟩
abbrev main_call0_v3 : Ref sig .tc := ⟨.hbm, 51, rfl⟩
abbrev main_call0_cst_0 : Ref sig .tc := ⟨.hbm, 52, rfl⟩
abbrev main_call0_v4 : Ref sig .tc := ⟨.hbm, 53, rfl⟩
abbrev main_call0_v5 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩

abbrev nD : Nat := 1
abbrev τ : Topo := Topo.v7x

variable {F : FTy → Type} [FloatOps F]
-- ==== Proof.Merge.Ref.lean ====
/-
  The reference's join of the mixer's two branches at an index, over the extended reals: a row of the gated heads through
  their projection, the row's layer norm through silu and its projection, gated, summed and projected onto the residual.
-/
module

public import proofs.«01_k».proof.Proof.Gen.MergeReferenceIdeal.Run
public import Idealize.ShloMosaic.Lib.Pipeline.ValueKit

@[expose] public section

set_option maxRecDepth 16384

noncomputable section

open Idealize.ShloMosaic Idealize.ShloMosaic.TcCoe Idealize.SL.Sem
open Cert.MergeReferenceIdeal Cert.MergeReferenceIdeal.Gen
open scoped BigOperators

namespace Cert.Join

/-- a row less its mean over its root mean square deviation, scaled and shifted. -/
def lnorm (u w b : Fin 1024 → EReal) (k : Fin 1024) : EReal :=
  (u k - Ideal.div (∑ x, u x) (Ideal.ofBits FTy.f32 1149239296#32)) *
      Ideal.rsqrt (Ideal.div (∑ x, (u x - Ideal.div (∑ x, u x) (Ideal.ofBits FTy.f32 1149239296#32)) *
          (u x - Ideal.div (∑ x, u x) (Ideal.ofBits FTy.f32 1149239296#32))) (Ideal.ofBits FTy.f32 1149239296#32)
        + Ideal.ofBits FTy.f32 925353388#32) * w k + b k

/-- an extended real times its logistic. -/
def silu (y : EReal) : EReal := y * Ideal.div 1 (1 + Ideal.exp (-y))

/-- the joined row at a feature. -/
def joined (x : EReal) (gr gc : Fin 1024 → EReal) (og : Fin 2048 → EReal) (u w b : Fin 1024 → EReal)
    (wr : Fin 2048 → Fin 1024 → EReal) (wc : Fin 1024 → Fin 1024 → EReal) (bc wo : Fin 1024 → EReal) : EReal :=
  x + ∑ l, (gr l * (∑ k, og k * wr k l) + gc l * ((∑ k, silu (lnorm u w b k) * wc k l) + bc l)) * wo l

/-- a row's mean over its features. -/
def refMean (x : FVec Ideal S2x8192x1024 .f32) : FVec Ideal S2x8192x1 .f32 :=
  Host.divf (broadcastInDim S2x8192x1 ![0, 1] bcast_S2x8192_S2x8192x1_0_1
      (Host.reduceAdd x (constant S_ .f32 0x00000000#32) reducesTo_S2x8192x1024_S2x8192_d2 h_S_))
    (broadcastInDim S2x8192x1 ![] bcast_S_S2x8192x1 (constant S_ .f32 0x44800000#32))

/-- a row less its mean. -/
def refCen (x : FVec Ideal S2x8192x1024 .f32) : FVec Ideal S2x8192x1024 .f32 :=
  subf x (broadcastInDim S2x8192x1024 ![0, 1, 2] bcast_S2x8192x1_S2x8192x1024_0_1_2 (refMean x))

/-- a weight of the norm over all rows. -/
def refWeight (w : FVec Ideal S1x1024 .f32) : FVec Ideal S2x8192x1024 .f32 :=
  broadcastInDim S2x8192x1024 ![0, 1, 2] bcast_S1x1x1024_S2x8192x1024_0_1_2
    (broadcastInDim S1x1x1024 ![2] bcast_S1024_S1x1x1024_2 (shapeCast _ w shapeCasts_S1x1024_S1024))

/-- the layer norm. -/
def refNorm (u : FVec Ideal S2x8192x1024 .f32) (w b : FVec Ideal S1x1024 .f32) : FVec Ideal S2x8192x1024 .f32 :=
  addf (mulf (mulf (refCen u) (broadcastInDim S2x8192x1024 ![0, 1, 2] bcast_S2x8192x1_S2x8192x1024_0_1_2
      (Host.rsqrt (addf (refMean (mulf (refCen u) (refCen u))) (broadcastInDim S2x8192x1 ![] bcast_S_S2x8192x1 (constant S_ .f32 0x3727C5AC#32))))))
    (refWeight w)) (refWeight b)

/-- silu on the host. -/
def refSilu (y : FVec Ideal S2x8192x1024 .f32) : FVec Ideal S2x8192x1024 .f32 :=
  mulf y (Host.divf (broadcastInDim S2x8192x1024 ![] bcast_S_S2x8192x1024 (constant S_ .f32 0x3F800000#32))
    (addf (broadcastInDim S2x8192x1024 ![] bcast_S_S2x8192x1024 (constant S_ .f32 0x3F800000#32)) (Host.exp (Host.negf y))))

/-- the gated heads through their projection. -/
def refRet (o s : FVec Ideal S2x8192x8x256 .f32) (w : FVec Ideal S1x2048x1024 .f32) : FVec Ideal S2x8192x1024 .f32 :=
  Host.dotGeneral dot_S2x8192x2048_S2048x1024_S2x8192x1024_2_0_01_1_n_n none
    (mulf (shapeCast _ o shapeCasts_S2x8192x8x256_S2x8192x2048) (shapeCast _ s shapeCasts_S2x8192x8x256_S2x8192x2048))
    (shapeCast _ w shapeCasts_S1x2048x1024_S2048x1024)

/-- the convolution's branch through its projection, with its bias. -/
def refConv (y : FVec Ideal S2x8192x1024 .f32) (w : FVec Ideal S1x1024x1024 .f32) (b : FVec Ideal S1x1024 .f32) : FVec Ideal S2x8192x1024 .f32 :=
  addf (Host.dotGeneral dot_S2x8192x1024_S1024x1024_S2x8192x1024_2_0_01_1_n_n none (refSilu y)
    (shapeCast _ w shapeCasts_S1x1024x1024_S1024x1024)) (refWeight b)

/-- the reference's result as a term of its arguments. -/
def REF (a0 : FVec Ideal S2x8192x1024 .f32) (a1 a2 : FVec Ideal S2x8192x8x256 .f32) (a3 : FVec Ideal S2x8192x1024 .f32)
    (a4 : FVec Ideal S2x8192x2048 .f32) (a5 a6 : FVec Ideal S1x1024 .f32) (a7 : FVec Ideal S1x2048x1024 .f32)
    (a8 : FVec Ideal S1x1024x1024 .f32) (a9 : FVec Ideal S1x1024 .f32) (a10 : FVec Ideal S1x1024x1024 .f32) : FVec Ideal S16384x1024 .f32 :=
  shapeCast _ (addf a0 (Host.dotGeneral dot_S2x8192x1024_S1024x1024_S2x8192x1024_2_0_01_1_n_n none
      (addf (mulf (extractStridedSlice S2x8192x1024 ![0, 0, 0] a4 slices_S2x8192x2048_S2x8192x1024_0_0_0) (refRet a1 a2 a7))
        (mulf (extractStridedSlice S2x8192x1024 ![0, 0, 1024] a4 slices_S2x8192x2048_S2x8192x1024_0_0_1024) (refConv (refNorm a3 a5 a6) a8 a9)))
      (shapeCast _ a10 shapeCasts_S1x1024x1024_S1024x1024))) shapeCasts_S2x8192x1024_S16384x1024

/-- the run's result is these stages composed. -/
theorem res_eq (m : (ℓ : Loc nD τ sig) → Buf (Elt Ideal) ℓ) (c : Dev nD) :
    Cert.MergeReferenceIdeal.Value.res_main_v46 m c = REF (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7))
      (m ((c : Thread nD τ).loc main_arg8)) (m ((c : Thread nD τ).loc main_arg9)) (m ((c : Thread nD τ).loc main_arg10)) := rfl

theorem refNorm_at (u : FVec Ideal S2x8192x1024 .f32) (w b : FVec Ideal S1x1024 .f32) (p : Fin 2) (s : Fin 8192) (k : Fin 1024) :
    refNorm u w b (ix3 p s k) = lnorm (fun k => u (ix3 p s k)) (fun k => w (ix2 0 k)) (fun k => b (ix2 0 k)) k := by
  pointwise [refNorm, refCen, refMean, refWeight]; rfl

theorem refConv_at (y : FVec Ideal S2x8192x1024 .f32) (w : FVec Ideal S1x1024x1024 .f32) (b : FVec Ideal S1x1024 .f32) (p : Fin 2) (s : Fin 8192) (l : Fin 1024) :
    refConv y w b (ix3 p s l) = (∑ k : Fin 1024, silu (y (ix3 p s k)) * w (ix3 0 k l)) + b (ix2 0 l) := by
  pointwise [refConv, refSilu, refWeight]; rfl

theorem refRet_at (o s : FVec Ideal S2x8192x8x256 .f32) (w : FVec Ideal S1x2048x1024 .f32) (p : Fin 2) (n : Fin 8192) (l : Fin 1024) :
    refRet o s w (ix3 p n l) = ∑ k : Fin 2048, (o (ix4 p n ⟨k.val / 256, by omega⟩ ⟨k.val % 256, by omega⟩) * s (ix4 p n ⟨k.val / 256, by omega⟩ ⟨k.val % 256, by omega⟩)) * w (ix3 0 k l) := by
  pointwise [refRet]

theorem REF_at (a0 : FVec Ideal S2x8192x1024 .f32) (a1 a2 : FVec Ideal S2x8192x8x256 .f32) (a3 : FVec Ideal S2x8192x1024 .f32)
    (a4 : FVec Ideal S2x8192x2048 .f32) (a5 a6 : FVec Ideal S1x1024 .f32) (a7 : FVec Ideal S1x2048x1024 .f32)
    (a8 : FVec Ideal S1x1024x1024 .f32) (a9 : FVec Ideal S1x1024 .f32) (a10 : FVec Ideal S1x1024x1024 .f32)
    (r : Fin 16384) (j : Fin 1024) (b : Fin 2) (s : Fin 8192) (hb : (⟨r.val / 8192, by omega⟩ : Fin 2) = b) (hs : (⟨r.val % 8192, by omega⟩ : Fin 8192) = s) :
    REF a0 a1 a2 a3 a4 a5 a6 a7 a8 a9 a10 (ix2 r j) = joined (a0 (ix3 b s j)) (fun l => a4 (ix3 b s ⟨l.val, by omega⟩)) (fun l => a4 (ix3 b s ⟨1024 + l.val, by omega⟩))
      (fun k => a1 (ix4 b s ⟨k.val / 256, by omega⟩ ⟨k.val % 256, by omega⟩) * a2 (ix4 b s ⟨k.val / 256, by omega⟩ ⟨k.val % 256, by omega⟩))
      (fun k => a3 (ix3 b s k)) (fun k => a5 (ix2 0 k)) (fun k => a6 (ix2 0 k))
      (fun k l => a7 (ix3 0 k l)) (fun k l => a8 (ix3 0 k l)) (fun l => a9 (ix2 0 l)) (fun l => a10 (ix3 0 l j)) := by
  subst hb hs
  pointwise [REF]
  simp only [refRet_at, refConv_at, refNorm_at]
  rfl

end Cert.Join
end
-- ==== Proof.Merge.Math.lean ====
/-
  The logistic by the hyperbolic tangent over the extended reals.
-/
module

public import Idealize.ShloMosaic.Lib.Pipeline.ValueKit

@[expose] public section

noncomputable section

open Idealize.ShloMosaic

namespace Cert.Join

/-- half the tangent of the half, plus a half, is the logistic. -/
theorem half_tanh (y : EReal) : ((1 / 2 : ℝ) : EReal) * Ideal.tanh (((1 / 2 : ℝ) : EReal) * y) + ((1 / 2 : ℝ) : EReal) = Ideal.div 1 (1 + Ideal.exp (-y)) := by
  change _ = Ideal.logistic y
  induction y with
  | bot =>
    rw [EReal.coe_mul_bot_of_pos (by norm_num), Ideal.tanh_bot, Ideal.logistic_bot, mul_neg, mul_one, ← EReal.coe_neg, ← EReal.coe_add]
    norm_num
  | top =>
    rw [EReal.coe_mul_top_of_pos (by norm_num), Ideal.tanh_top, Ideal.logistic_top]
    norm_cast; norm_num
  | coe r =>
    rw [← EReal.coe_mul, Ideal.tanh_coe, ← EReal.coe_mul, ← EReal.coe_add, Ideal.logistic_coe]
    congr 1
    have h1 : Real.exp (-r) = Real.exp (-(r / 2)) * Real.exp (-(r / 2)) := by rw [← Real.exp_add]; ring_nf
    have h2 : Real.exp (r / 2) * Real.exp (-(r / 2)) = 1 := by rw [← Real.exp_add]; simp
    have p1 := Real.exp_pos (r / 2)
    have p2 := Real.exp_pos (-(r / 2))
    rw [show (1 / 2 : ℝ) * r = r / 2 by ring, Real.tanh_eq_sinh_div_cosh, Real.sinh_eq, Real.cosh_eq, h1]
    field_simp
    nlinarith

/-- the word of one half. -/
theorem half_word : Ideal.ofBits FTy.f32 0x3F000000#32 = ((1 / 2 : ℝ) : EReal) := by
  simp [Ideal.ofBits, Ideal.ieee]; rw [← EReal.coe_mul]; norm_num

end Cert.Join
end
-- ==== Proof.Merge.Rows.lean ====
/-
  The merge call's rows over the extended reals: what one of its two row blocks stores, as the joined row.
-/
module

public import proofs.«01_k».proof.Proof.Gen.MergeIdeal.Value
public import proofs.«01_k».proof.Proof.Merge.Ref
public import proofs.«01_k».proof.Proof.Merge.Math

@[expose] public section

set_option maxRecDepth 16384

noncomputable section

open Idealize.ShloMosaic Idealize.ShloMosaic.TcCoe Idealize.SL.Sem
open Cert.MergeIdeal Cert.MergeIdeal.Gen Cert.Join
open scoped BigOperators

namespace Cert.MergeIdeal.Value

/-- eight pieces of one width beside each other, at an index. -/
theorem cat8 {α : Type} {r w : ℕ} (t0 t1 t2 t3 t4 t5 t6 t7 : (⟨2, ![r, w]⟩ : Shape).Idx → α)
    (h : Shape.Concatenates (([⟨_, t0⟩, ⟨_, t1⟩, ⟨_, t2⟩, ⟨_, t3⟩, ⟨_, t4⟩, ⟨_, t5⟩, ⟨_, t6⟩, ⟨_, t7⟩] : List ((s : Shape) × (s.Idx → α))).map (·.1)) ⟨2, ![r, 8 * w]⟩ 1)
    (i : Fin r) (k : Fin (8 * w)) (hw : 0 < w) :
    concatenate ⟨2, ![r, 8 * w]⟩ 1 [⟨_, t0⟩, ⟨_, t1⟩, ⟨_, t2⟩, ⟨_, t3⟩, ⟨_, t4⟩, ⟨_, t5⟩, ⟨_, t6⟩, ⟨_, t7⟩] h (ix2 i k)
      = ![t0, t1, t2, t3, t4, t5, t6, t7] ⟨k.val / w, (Nat.div_lt_iff_lt_mul hw).mpr k.isLt⟩ (ix2 i ⟨k.val % w, Nat.mod_lt _ hw⟩) := by
  refine concatenate_ofFn_apply (s₁ := ⟨2, ![r, w]⟩) 1 ![t0, t1, t2, t3, t4, t5, t6, t7] h rfl w rfl (ix2 i k) _ rfl (ix2 i _) rfl fun b hb => ?_
  fin_cases b
  · rfl
  · exact absurd rfl hb

/-- the heads' gated outputs beside each other. -/
def heads {F : FTy → Type} [FloatOps F] (o s : ℕ → Vec F S1x1x256x256 .bf16) : FVec F S256x2048 .bf16 :=
  concatenate S256x2048 1 [⟨S256x256, k0_pay2 (o 0) (s 0)⟩, ⟨S256x256, k0_pay2 (o 1) (s 1)⟩, ⟨S256x256, k0_pay2 (o 2) (s 2)⟩, ⟨S256x256, k0_pay2 (o 3) (s 3)⟩,
    ⟨S256x256, k0_pay2 (o 4) (s 4)⟩, ⟨S256x256, k0_pay2 (o 5) (s 5)⟩, ⟨S256x256, k0_pay2 (o 6) (s 6)⟩, ⟨S256x256, k0_pay2 (o 7) (s 7)⟩]
    concatenates_S256x256_S256x256_S256x256_S256x256_S256x256_S256x256_S256x256_S256x256_S256x2048_d1

/-- the eight lane groups of a row beside each other. -/
def lanes {F : FTy → Type} [FloatOps F] (cs : ℕ → Vec F S256x128 .f32) : FVec F S256x1024 .f32 :=
  concatenate S256x1024 1 [⟨S256x128, k0_pay8 (cs 0)⟩, ⟨S256x128, k0_pay8 (cs 1)⟩, ⟨S256x128, k0_pay8 (cs 2)⟩, ⟨S256x128, k0_pay8 (cs 3)⟩, ⟨S256x128, k0_pay8 (cs 4)⟩,
    ⟨S256x128, k0_pay8 (cs 5)⟩, ⟨S256x128, k0_pay8 (cs 6)⟩, ⟨S256x128, k0_pay8 (cs 7)⟩]
    concatenates_S256x128_S256x128_S256x128_S256x128_S256x128_S256x128_S256x128_S256x128_S256x1024_d1

/-- the rows' means over the features. -/
def means {F : FTy → Type} [FloatOps F] (a : FVec F S256x1024 .f32) : FVec F S256x1 .f32 :=
  divf (shapeCast S256x1 (multiReduction .add [1] S256 a 0x00000000#32 reduces_S256x1024_S256 (.inl rfl) rfl) shapeCasts_S256_S256x1)
    (broadcast S256x1 (Scalar.ofBits .f32 0x44800000#32))

/-- the rows less their means. -/
def centred {F : FTy → Type} [FloatOps F] (a : FVec F S256x1024 .f32) : FVec F S256x1024 .f32 :=
  subf a (broadcastTo S256x1024 (means a) broadcasts_S256x1_S256x1024)

/-- the rows' layer norm. -/
def normed {F : FTy → Type} [FloatOps F] (a : FVec F S256x1024 .f32) (w b : Vec F S1x1024 .f32) : FVec F S256x1024 .f32 :=
  addf (mulf (mulf (centred a) (broadcastTo S256x1024 (rsqrt (addf (means (mulf (centred a) (centred a))) (broadcast S256x1 (Scalar.ofBits .f32 0x3727C5AC#32))))
      broadcasts_S256x1_S256x1024))
    (broadcastTo S256x1024 (shapeCast S1x1024 w shapeCasts_S1x1024_S1x1024) broadcasts_S1x1024_S256x1024))
    (broadcastTo S256x1024 (shapeCast S1x1024 b shapeCasts_S1x1024_S1x1024) broadcasts_S1x1024_S256x1024)

/-- the gated heads through their projection. -/
def project {F : FTy → Type} [FloatOps F] (og : FVec F S256x2048 .bf16) (w : Vec F S2048x1024 .bf16) : FVec F S256x1024 .f32 :=
  matmul dot_S256x2048_S2048x1024_S256x1024_1_0_0_1_n_n none og (shapeCast S2048x1024 w shapeCasts_S2048x1024_S2048x1024)
    (constant S256x1024 .f32 0x00000000#32)

/-- what a row block stores, from what it loads, at any float values. -/
def rows {F : FTy → Type} [FloatOps F] (o s : ℕ → Vec F S1x1x256x256 .bf16) (cs : ℕ → Vec F S256x128 .f32) (wr : Vec F S2048x1024 .bf16)
    (w b : Vec F S1x1024 .f32) (wc : Vec F S1024x1024 .bf16) (bc : Vec F S1x1024 .f32) (gr gc : Vec F S256x1024 .bf16)
    (x : Vec F S256x1024 .f32) (wo : Vec F S1024x1024 .bf16) : FVec F S256x1024 .f32 :=
  k0_pay12 (project (heads o s) wr) (normed (lanes cs) w b) k0_pay11 wc bc gr gc x wo

theorem heads_at (o s : ℕ → Vec Ideal S1x1x256x256 .bf16) (i : Fin 256) (k : Fin 2048) :
    heads o s (ix2 i k) = o (k.val / 256) (ix4 0 0 i ⟨k.val % 256, by omega⟩) * s (k.val / 256) (ix4 0 0 i ⟨k.val % 256, by omega⟩) := by
  have h : ∀ n : Fin 8, ![k0_pay2 (o 0) (s 0), k0_pay2 (o 1) (s 1), k0_pay2 (o 2) (s 2), k0_pay2 (o 3) (s 3), k0_pay2 (o 4) (s 4), k0_pay2 (o 5) (s 5), k0_pay2 (o 6) (s 6),
      k0_pay2 (o 7) (s 7)] n = k0_pay2 (o n.val) (s n.val) := fun n => by fin_cases n <;> rfl
  refine (cat8 (r := 256) (w := 256) _ _ _ _ _ _ _ _ _ i k (by norm_num)).trans ?_
  rw [h]
  pointwise [k0_pay2]

theorem lanes_at (cs : ℕ → Vec Ideal S256x128 .f32) (i : Fin 256) (k : Fin 1024) :
    lanes cs (ix2 i k) = cs (k.val / 128) (ix2 i ⟨k.val % 128, by omega⟩) := by
  have h : ∀ n : Fin 8, ![k0_pay8 (cs 0), k0_pay8 (cs 1), k0_pay8 (cs 2), k0_pay8 (cs 3), k0_pay8 (cs 4), k0_pay8 (cs 5), k0_pay8 (cs 6), k0_pay8 (cs 7)] n
      = k0_pay8 (cs n.val) := fun n => by fin_cases n <;> rfl
  refine (cat8 (r := 256) (w := 128) _ _ _ _ _ _ _ _ _ i k (by norm_num)).trans ?_
  rw [h]
  pointwise [k0_pay8]

theorem normed_at (a : FVec Ideal S256x1024 .f32) (w b : Vec Ideal S1x1024 .f32) (i : Fin 256) (k : Fin 1024) :
    normed a w b (ix2 i k) = lnorm (fun k => a (ix2 i k)) (fun k => w (ix2 0 k)) (fun k => b (ix2 0 k)) k := by
  pointwise [normed, centred, means]; rfl

/-- a row block's stored rows are joined rows. -/
theorem rows_at (o s : ℕ → Vec Ideal S1x1x256x256 .bf16) (cs : ℕ → Vec Ideal S256x128 .f32) (wr : Vec Ideal S2048x1024 .bf16)
    (w b : Vec Ideal S1x1024 .f32) (wc : Vec Ideal S1024x1024 .bf16) (bc : Vec Ideal S1x1024 .f32) (gr gc : Vec Ideal S256x1024 .bf16)
    (x : Vec Ideal S256x1024 .f32) (wo : Vec Ideal S1024x1024 .bf16) (i : Fin 256) (j : Fin 1024) :
    rows o s cs wr w b wc bc gr gc x wo (ix2 i j) = joined (x (ix2 i j)) (fun l => gr (ix2 i l)) (fun l => gc (ix2 i l))
      (fun k => o (k.val / 256) (ix4 0 0 i ⟨k.val % 256, by omega⟩) * s (k.val / 256) (ix4 0 0 i ⟨k.val % 256, by omega⟩))
      (fun k => cs (k.val / 128) (ix2 i ⟨k.val % 128, by omega⟩)) (fun k => w (ix2 0 k)) (fun k => b (ix2 0 k))
      (fun k l => wr (ix2 k l)) (fun k l => wc (ix2 k l)) (fun l => bc (ix2 0 l)) (fun l => wo (ix2 l j)) := by
  pointwise [rows, k0_pay12, k0_pay11, project]
  simp only [heads_at, normed_at, lanes_at, half_word, half_tanh]
  rfl

end Cert.MergeIdeal.Value
end
-- ==== Proof.Merge.Run.lean ====
/-
  The merge call's body at one grid point: its two stores, given by the row block's number, as the same function of what
  each block loads.
-/
module

public import proofs.«01_k».proof.Proof.Merge.Rows

@[expose] public section

set_option maxRecDepth 16384

noncomputable section

open Idealize.ShloMosaic Idealize.ShloMosaic.TcCoe Idealize.SL.Sem
open Cert.MergeIdeal Cert.MergeIdeal.Gen

namespace Cert.MergeIdeal.Value

section Uniform
variable {F : FTy → Type} [FloatOps F]

theorem inb_o (r g : ℕ) : ∀ a, (![0, g % 8, 256 * (r % 2), 0] : Fin 4 → ℕ) a + S1x1x256x256.size a ≤ S1x8x512x256.size a := by
  have h := Nat.mod_lt g (show 8 > 0 by norm_num)
  have h := Nat.mod_lt r (show 2 > 0 by norm_num)
  intro a; fin_cases a <;> simp <;> omega
theorem inb_r (r : ℕ) : ∀ a, (![256 * (r % 2), 0] : Fin 2 → ℕ) a + S256x1024.size a ≤ S512x1024.size a := by
  have h := Nat.mod_lt r (show 2 > 0 by norm_num)
  intro a; fin_cases a <;> simp <;> omega
theorem inb_cs (r g : ℕ) : ∀ a, S256x128.size a = 0 ∨ (![2048 * (r % 2) + g % 8, 0] : Fin 2 → ℕ) a + (![8, 1] : Fin 2 → ℕ) a * (S256x128.size a - 1) < S4096x128.size a := by
  have h := Nat.mod_lt g (show 8 > 0 by norm_num)
  have h := Nat.mod_lt r (show 2 > 0 by norm_num)
  intro a; right; fin_cases a <;> simp <;> omega
theorem inb_w (n k : ℕ) : ∀ a, (![0, 0] : Fin 2 → ℕ) a + (![n, k] : Fin 2 → ℕ) a ≤ (![n, k] : Fin 2 → ℕ) a := by
  intro a; fin_cases a <;> simp

/-- head `g`'s rows of row block `r`. -/
def Oc (a : Memref sig .tc .vmem S1x8x512x256 .bf16) (h : a.IsWhole) (x : Vec F S1x8x512x256 .bf16) (r g : ℕ) : Vec F S1x1x256x256 .bf16 :=
  View.readAt (Elt F) a.view (Rect.unit (s := S1x8x512x256) ![0, g % 8, 256 * (r % 2), 0] S1x1x256x256.size (inb_o r g)).toLoadRect (h.unread x)

/-- lane group `g` of row block `r`: every eighth row. -/
def Cc (a : Memref sig .tc .vmem S4096x128 .f32) (h : a.IsWhole) (x : Vec F S4096x128 .f32) (r g : ℕ) : Vec F S256x128 .f32 :=
  View.readAt (Elt F) a.view { off := ![2048 * (r % 2) + g % 8, 0], size := S256x128.size, stride := ![8, 1], inb := inb_cs r g } (h.unread x)

/-- row block `r` of a block of rows. -/
def Rc {e : EltTy} (a : Memref sig .tc .vmem S512x1024 e) (h : a.IsWhole) (x : Vec F S512x1024 e) (r : ℕ) : Vec F S256x1024 e :=
  View.readAt (Elt F) a.view (Rect.unit (s := S512x1024) ![256 * (r % 2), 0] S256x1024.size (inb_r r)).toLoadRect (h.unread x)

/-- a whole operand. -/
def Wc {n k : ℕ} {e : EltTy} (a : Memref sig .tc .vmem ⟨2, ![n, k]⟩ e) (h : a.IsWhole) (x : Vec F ⟨2, ![n, k]⟩ e) : Vec F ⟨2, ![n, k]⟩ e :=
  View.readAt (Elt F) a.view (Rect.unit (s := ⟨2, ![n, k]⟩) ![0, 0] ![n, k] (inb_w n k)).toLoadRect (h.unread x)

/-- what row block `r` stores. -/
def stored (arg1 : Memref sig .tc .vmem S512x1024 .f32) (harg1 : arg1.IsWhole) (arg2 : Memref sig .tc .vmem S1x8x512x256 .bf16) (harg2 : arg2.IsWhole) (arg3 : Memref sig .tc .vmem S1x8x512x256 .bf16) (harg3 : arg3.IsWhole) (arg4 : Memref sig .tc .vmem S4096x128 .f32) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S2048x1024 .bf16) (harg9 : arg9.IsWhole) (arg10 : Memref sig .tc .vmem S1024x1024 .bf16) (harg10 : arg10.IsWhole) (arg11 : Memref sig .tc .vmem S1x1024 .f32) (harg11 : arg11.IsWhole) (arg12 : Memref sig .tc .vmem S1024x1024 .bf16) (harg12 : arg12.IsWhole)
    (x0 : Vec F S512x1024 .f32) (x1 : Vec F S1x8x512x256 .bf16) (x2 : Vec F S1x8x512x256 .bf16) (x3 : Vec F S4096x128 .f32) (x4 : Vec F S512x1024 .bf16) (x5 : Vec F S512x1024 .bf16) (x6 : Vec F S1x1024 .f32) (x7 : Vec F S1x1024 .f32) (x8 : Vec F S2048x1024 .bf16) (x9 : Vec F S1024x1024 .bf16) (x10 : Vec F S1x1024 .f32) (x11 : Vec F S1024x1024 .bf16)
    (r : ℕ) : FVec F S256x1024 .f32 :=
  rows (Oc arg2 harg2 x1 r) (Oc arg3 harg3 x2 r) (Cc arg4 harg4 x3 r) (Wc (n := 2048) arg9 harg9 x8) (Wc (n := 1) arg7 harg7 x6)
    (Wc (n := 1) arg8 harg8 x7) (Wc (n := 1024) arg10 harg10 x9) (Wc (n := 1) arg11 harg11 x10) (Rc arg5 harg5 x4 r)
    (Rc arg6 harg6 x5 r) (Rc arg1 harg1 x0 r) (Wc (n := 1024) arg12 harg12 x11)

/-- the body's stores are the two row blocks'. -/
theorem stores_eq (c : Dev nD) (i : grid0.Coords) (arg1 : Memref sig .tc .vmem S512x1024 .f32) (harg1 : arg1.IsWhole) (arg2 : Memref sig .tc .vmem S1x8x512x256 .bf16) (harg2 : arg2.IsWhole) (arg3 : Memref sig .tc .vmem S1x8x512x256 .bf16) (harg3 : arg3.IsWhole) (arg4 : Memref sig .tc .vmem S4096x128 .f32) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S2048x1024 .bf16) (harg9 : arg9.IsWhole) (arg10 : Memref sig .tc .vmem S1024x1024 .bf16) (harg10 : arg10.IsWhole) (arg11 : Memref sig .tc .vmem S1x1024 .f32) (harg11 : arg11.IsWhole) (arg12 : Memref sig .tc .vmem S1024x1024 .bf16) (harg12 : arg12.IsWhole) (arg13 : Memref sig .tc .vmem S512x1024 .f32) (harg13 : arg13.IsWhole)
    (x0 : Vec F S512x1024 .f32) (x1 : Vec F S1x8x512x256 .bf16) (x2 : Vec F S1x8x512x256 .bf16) (x3 : Vec F S4096x128 .f32) (x4 : Vec F S512x1024 .bf16) (x5 : Vec F S512x1024 .bf16) (x6 : Vec F S1x1024 .f32) (x7 : Vec F S1x1024 .f32) (x8 : Vec F S2048x1024 .bf16) (x9 : Vec F S1024x1024 .bf16) (x10 : Vec F S1x1024 .f32) (x11 : Vec F S1024x1024 .bf16) :
    (kernelRun0_A c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 x11).1
      = [⟨Rect.unit ![256, 0] ![256, 1024] inb_S512x1024_S256x1024_256_0, stored arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 x11 1⟩,
        ⟨Rect.unit ![0, 0] ![256, 1024] inb_S512x1024_S256x1024_0_0, stored arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 x11 0⟩] := by
  sl_kernel_rfl

end Uniform
end Cert.MergeIdeal.Value
end
-- ==== Proof.Merge.Value.lean ====
/-
  The value of the merge call over the extended reals: the array it writes is the reference's result.
-/
module

public import proofs.«01_k».proof.Proof.Merge.Run
public import Idealize.ShloMosaic.Lib.WholeRead

@[expose] public section

set_option maxRecDepth 16384

noncomputable section

open Idealize.ShloMosaic Idealize.ShloMosaic.TcCoe Idealize.SL.Sem
open Idealize.ShloMosaic.Pipeline (Dat)
open Cert.MergeIdeal Cert.MergeIdeal.Gen Cert.Join
open scoped BigOperators

namespace Cert.MergeIdeal.Value

/-! ## The loads at an index -/

theorem Oc_at (a : Memref sig .tc .vmem S1x8x512x256 .bf16) (h : a.IsWhole) (x : Vec Ideal S1x8x512x256 .bf16) (r : ℕ) (hr : r < 2) (g : Fin 8) (i : Fin 256) (e : Fin 256)
    (p : Fin 512) (hp : p.val = 256 * r + i.val) : Oc a h x r g.val (ix4 0 0 i e) = x (ix4 0 g p e) := by
  unfold Oc
  rw [Memref.IsWhole.readAt_unread]
  have := Nat.mod_eq_of_lt hr
  have := Nat.mod_eq_of_lt g.isLt
  refine congrArg x (funext fun a => Fin.ext ((Rect.idx_unit_val _ _ _ _ a).trans ?_))
  fin_cases a <;> simp <;> omega
theorem Cc_at (a : Memref sig .tc .vmem S4096x128 .f32) (h : a.IsWhole) (x : Vec Ideal S4096x128 .f32) (r : ℕ) (hr : r < 2) (g : Fin 8) (i : Fin 256) (e : Fin 128)
    (p : Fin 4096) (hp : p.val = 2048 * r + 8 * i.val + g.val) : Cc a h x r g.val (ix2 i e) = x (ix2 p e) := by
  unfold Cc
  rw [Memref.IsWhole.readAt_unread]
  have := Nat.mod_eq_of_lt hr
  have := Nat.mod_eq_of_lt g.isLt
  refine congrArg x (funext fun a => Fin.ext ?_)
  fin_cases a <;> simp [LoadRect.idx] <;> omega
theorem Rc_at {e : EltTy} (a : Memref sig .tc .vmem S512x1024 e) (h : a.IsWhole) (x : Vec Ideal S512x1024 e) (r : ℕ) (hr : r < 2) (i : Fin 256) (l : Fin 1024)
    (p : Fin 512) (hp : p.val = 256 * r + i.val) : Rc a h x r (ix2 i l) = x (ix2 p l) := by
  unfold Rc
  rw [Memref.IsWhole.readAt_unread]
  have := Nat.mod_eq_of_lt hr
  refine congrArg x (funext fun a => Fin.ext ((Rect.idx_unit_val _ _ _ _ a).trans ?_))
  fin_cases a <;> simp <;> omega
theorem Wc_at {n k : ℕ} {e : EltTy} (a : Memref sig .tc .vmem ⟨2, ![n, k]⟩ e) (h : a.IsWhole) (x : Vec Ideal ⟨2, ![n, k]⟩ e) (i : Fin n) (l : Fin k) :
    Wc a h x (ix2 i l) = x (ix2 i l) := by
  unfold Wc
  rw [Memref.IsWhole.readAt_unread]
  refine congrArg x (funext fun a => Fin.ext ((Rect.idx_unit_val _ _ _ _ a).trans ?_))
  fin_cases a <;> simp

section Stored
variable (arg1 : Memref sig .tc .vmem S512x1024 .f32) (harg1 : arg1.IsWhole) (arg2 : Memref sig .tc .vmem S1x8x512x256 .bf16) (harg2 : arg2.IsWhole) (arg3 : Memref sig .tc .vmem S1x8x512x256 .bf16) (harg3 : arg3.IsWhole) (arg4 : Memref sig .tc .vmem S4096x128 .f32) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S2048x1024 .bf16) (harg9 : arg9.IsWhole) (arg10 : Memref sig .tc .vmem S1024x1024 .bf16) (harg10 : arg10.IsWhole) (arg11 : Memref sig .tc .vmem S1x1024 .f32) (harg11 : arg11.IsWhole) (arg12 : Memref sig .tc .vmem S1024x1024 .bf16) (harg12 : arg12.IsWhole)
    (x0 : Vec Ideal S512x1024 .f32) (x1 : Vec Ideal S1x8x512x256 .bf16) (x2 : Vec Ideal S1x8x512x256 .bf16) (x3 : Vec Ideal S4096x128 .f32) (x4 : Vec Ideal S512x1024 .bf16) (x5 : Vec Ideal S512x1024 .bf16) (x6 : Vec Ideal S1x1024 .f32) (x7 : Vec Ideal S1x1024 .f32) (x8 : Vec Ideal S2048x1024 .bf16) (x9 : Vec Ideal S1024x1024 .bf16) (x10 : Vec Ideal S1x1024 .f32) (x11 : Vec Ideal S1024x1024 .bf16)

/-- what row block `r` stores at row `i` is the joined row of the blocks' row `256 r + i`. -/
theorem stored_at (r : ℕ) (hr : r < 2) (i : Fin 256) (j : Fin 1024) (p : Fin 512) (hp : p.val = 256 * r + i.val) :
    stored arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 x11 r (ix2 i j)
      = joined (x0 (ix2 p j)) (fun l => x4 (ix2 p l)) (fun l => x5 (ix2 p l))
        (fun k => x1 (ix4 0 ⟨k.val / 256, by omega⟩ p ⟨k.val % 256, by omega⟩) * x2 (ix4 0 ⟨k.val / 256, by omega⟩ p ⟨k.val % 256, by omega⟩))
        (fun k => x3 (ix2 ⟨8 * p.val + k.val / 128, by omega⟩ ⟨k.val % 128, by omega⟩)) (fun k => x6 (ix2 0 k)) (fun k => x7 (ix2 0 k))
        (fun k l => x8 (ix2 k l)) (fun k l => x9 (ix2 k l)) (fun l => x10 (ix2 0 l)) (fun l => x11 (ix2 l j)) := by
  unfold stored
  rw [rows_at]
  simp only [Rc_at _ _ _ r hr i _ p hp, Wc_at (n := 2048), Wc_at (n := 1024), Wc_at (n := 1)]
  have ho : ∀ (a : Memref sig .tc .vmem S1x8x512x256 .bf16) (h : a.IsWhole) (x : Vec Ideal S1x8x512x256 .bf16) (k : Fin 2048),
      Oc a h x r (k.val / 256) (ix4 0 0 i ⟨k.val % 256, by omega⟩) = x (ix4 0 ⟨k.val / 256, by omega⟩ p ⟨k.val % 256, by omega⟩) :=
    fun a h x k => Oc_at a h x r hr ⟨k.val / 256, by omega⟩ i _ p hp
  have hc : ∀ k : Fin 1024, Cc arg4 harg4 x3 r (k.val / 128) (ix2 i ⟨k.val % 128, by omega⟩)
      = x3 (ix2 ⟨8 * p.val + k.val / 128, by omega⟩ ⟨k.val % 128, by omega⟩) :=
    fun k => Cc_at arg4 harg4 x3 r hr ⟨k.val / 128, by omega⟩ i _ _ (by simp only; omega)
  simp only [ho, hc]

end Stored

variable (m : (ℓ : Loc nD τ sig) → Buf (Elt Ideal) ℓ)

theorem idx_val : ∀ t : Fin cfg0.N, win0_0.index t = ![t.val, 0]
    ∧ win0_1.index t = ![t.val / 16, 0, t.val % 16, 0]
    ∧ win0_2.index t = ![t.val / 16, 0, t.val % 16, 0]
    ∧ win0_3.index t = ![t.val, 0]
    ∧ win0_4.index t = ![t.val, 0]
    ∧ win0_5.index t = ![t.val, 1]
    ∧ win0_6.index t = ![0, 0]
    ∧ win0_7.index t = ![0, 0]
    ∧ win0_8.index t = ![0, 0]
    ∧ win0_9.index t = ![0, 0]
    ∧ win0_10.index t = ![0, 0]
    ∧ win0_11.index t = ![0, 0]
    ∧ win0_12.index t = ![t.val, 0] :=
  (by decide +kernel : ∀ t : Fin grid0.N, _)

/-! ## The blocks at a grid point, as rows and weights of the arguments -/

section Blocks
variable (c : Dev nD) (t : Fin cfg0.N) (p : Fin 512) (b : Fin 2) (s : Fin 8192) (h : t.val * 512 + p.val = b.val * 8192 + s.val)
include h

theorem blk0 (k : Fin 1024) : iblk m c 0 t (ix2 p k) = m ((c : Thread nD τ).loc main_arg0) (ix3 b s k) := by
  blk_simp [iblk]; entry_read; pointwise; blk_ext [idx_val t]
theorem blk1 (g : Fin 8) (e : Fin 256) : iblk m c 1 t (ix4 0 g p e) = m ((c : Thread nD τ).loc main_arg1) (ix4 b s g e) := by
  blk_simp [iblk]; entry_read; pointwise; blk_ext [idx_val t]
theorem blk2 (g : Fin 8) (e : Fin 256) : iblk m c 2 t (ix4 0 g p e) = m ((c : Thread nD τ).loc main_arg2) (ix4 b s g e) := by
  blk_simp [iblk]; entry_read; pointwise; blk_ext [idx_val t]
theorem blk3 (k : Fin 1024) : iblk m c 3 t (ix2 ⟨8 * p.val + k.val / 128, by omega⟩ ⟨k.val % 128, by omega⟩) = m ((c : Thread nD τ).loc main_arg3) (ix3 b s k) := by
  blk_simp [iblk]; entry_read; pointwise; blk_ext [idx_val t]
theorem blk4 (k : Fin 1024) : iblk m c 4 t (ix2 p k) = m ((c : Thread nD τ).loc main_arg4) (ix3 b s ⟨k.val, by omega⟩) := by
  blk_simp [iblk]; entry_read; pointwise; blk_ext [idx_val t]
theorem blk5 (k : Fin 1024) : iblk m c 5 t (ix2 p k) = m ((c : Thread nD τ).loc main_arg4) (ix3 b s ⟨1024 + k.val, by omega⟩) := by
  blk_simp [iblk]; entry_read; pointwise; blk_ext [idx_val t]
end Blocks
theorem blk6 (c : Dev nD) (t : Fin cfg0.N) (k : Fin 1024) : iblk m c 6 t (ix2 0 k) = m ((c : Thread nD τ).loc main_arg5) (ix2 0 k) := by
  blk_simp [iblk]; entry_read; pointwise; blk_ext [idx_val t]
theorem blk7 (c : Dev nD) (t : Fin cfg0.N) (k : Fin 1024) : iblk m c 7 t (ix2 0 k) = m ((c : Thread nD τ).loc main_arg6) (ix2 0 k) := by
  blk_simp [iblk]; entry_read; pointwise; blk_ext [idx_val t]
theorem blk8 (c : Dev nD) (t : Fin cfg0.N) (k : Fin 2048) (l : Fin 1024) : iblk m c 8 t (ix2 k l) = m ((c : Thread nD τ).loc main_arg7) (ix3 0 k l) := by
  blk_simp [iblk]; entry_read; pointwise; blk_ext [idx_val t]
theorem blk9 (c : Dev nD) (t : Fin cfg0.N) (k l : Fin 1024) : iblk m c 9 t (ix2 k l) = m ((c : Thread nD τ).loc main_arg8) (ix3 0 k l) := by
  blk_simp [iblk]; entry_read; pointwise; blk_ext [idx_val t]
theorem blk10 (c : Dev nD) (t : Fin cfg0.N) (k : Fin 1024) : iblk m c 10 t (ix2 0 k) = m ((c : Thread nD τ).loc main_arg9) (ix2 0 k) := by
  blk_simp [iblk]; entry_read; pointwise; blk_ext [idx_val t]
theorem blk11 (c : Dev nD) (t : Fin cfg0.N) (k l : Fin 1024) : iblk m c 11 t (ix2 k l) = m ((c : Thread nD τ).loc main_arg10) (ix3 0 k l) := by
  blk_simp [iblk]; entry_read; pointwise; blk_ext [idx_val t]

/-- a stored row of a grid point is the reference's row. -/
theorem core (c : Dev nD) (t : Fin cfg0.N) (arg1 : Memref sig .tc .vmem S512x1024 .f32) (harg1 : arg1.IsWhole) (arg2 : Memref sig .tc .vmem S1x8x512x256 .bf16) (harg2 : arg2.IsWhole) (arg3 : Memref sig .tc .vmem S1x8x512x256 .bf16) (harg3 : arg3.IsWhole) (arg4 : Memref sig .tc .vmem S4096x128 .f32) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S2048x1024 .bf16) (harg9 : arg9.IsWhole) (arg10 : Memref sig .tc .vmem S1024x1024 .bf16) (harg10 : arg10.IsWhole) (arg11 : Memref sig .tc .vmem S1x1024 .f32) (harg11 : arg11.IsWhole) (arg12 : Memref sig .tc .vmem S1024x1024 .bf16) (harg12 : arg12.IsWhole)
    (r : ℕ) (hr : r < 2) (i : Fin 256) (j : Fin 1024) (R : Fin 16384) (hR : R.val = t.val * 512 + (256 * r + i.val)) :
    stored arg1 harg1 arg2 harg2 arg3 harg3 arg4 harg4 arg5 harg5 arg6 harg6 arg7 harg7 arg8 harg8 arg9 harg9 arg10 harg10 arg11 harg11 arg12 harg12 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) r (ix2 i j)
      = REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (ix2 R j) := by
  rw [stored_at _ _ _ _ _ _ _ _ _ _ _ _ _ _ _ _ _ _ _ _ _ _ _ _ _ _ _ _ _ _ _ _ _ _ _ _ r hr i j ⟨256 * r + i.val, by omega⟩ rfl,
    REF_at _ _ _ _ _ _ _ _ _ _ _ R j _ _ rfl rfl]
  have hN : t.val < 32 := t.isLt
  have h : t.val * 512 + (⟨256 * r + i.val, by omega⟩ : Fin 512).val
      = (⟨R.val / 8192, by omega⟩ : Fin 2).val * 8192 + (⟨R.val % 8192, by omega⟩ : Fin 8192).val := by simp only; omega
  have e1 : ∀ k, iblk m c 3 t _ = _ := blk3 m c t _ _ _ h
  simp only [blk0 m c t _ _ _ h, blk1 m c t _ _ _ h, blk2 m c t _ _ _ h, e1, blk4 m c t _ _ _ h, blk5 m c t _ _ _ h,
    blk6, blk7, blk8, blk9, blk10, blk11]

/-- the array the call writes is the reference's result. -/
theorem final (c : Dev nD) : (dats m 0 c).arrAt 12 (cfgs 0).N = REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (dats m 0 c).arrAt_eq_of_covers 12 _ (by decide +kernel) fun t hf y => ?_
  refine (congrFun (flushed12_A m c t) y).trans ?_
  have hN : t.val < 32 := t.isLt
  have hy : (y 0).val < 512 := (y 0).isLt
  have e : ∀ (R : Fin 16384) (j : Fin 1024), R.val = t.val * 512 + (y 0).val → j.val = (y 1).val →
      ((cfg0.win 12).blk t).view.emb y = ix2 R j := fun R j hR hj => by
    blk_ext [idx_val t]
  blk_simp
  generalize ((cfg0.win 12).blk t).view.emb y = z at e ⊢
  unfold out0_A_12
  rw [View.read_writes_junk_eq_canon, stores_eq]
  canon_tiles x h
  all_goals idx_vars x
  all_goals have hR : t.val * 512 + (y 0).val < 16384 := by omega
  all_goals rw [e ⟨t.val * 512 + (y 0).val, hR⟩ x1 rfl h1.symm]
  · exact core m c t _ _ _ _ _ _ _ _ _ _ _ _ _ _ _ _ _ _ _ _ _ _ _ _ 1 (by decide) x0 x1 _ (by simp only; omega)
  · exact core m c t _ _ _ _ _ _ _ _ _ _ _ _ _ _ _ _ _ _ _ _ _ _ _ _ 0 (by decide) x0 x1 _ (by simp only; omega)

end Cert.MergeIdeal.Value
end
-- ==== Proof.Merge.Claim.lean ====
/-
  The claims about the merge call and its reference: the reference's frame, and the value claim over the extended reals.
-/
module

public import proofs.«01_k».proof.Defs
public import proofs.«01_k».proof.Proof.Merge.Value
public import Idealize.ShloMosaic.Lib.Claim

@[expose] public section

set_option maxRecDepth 16384

noncomputable section

namespace Cert.Proof

open Idealize.ShloMosaic Idealize.SL.Sem

/-- the reference's run read at its arguments; it declares no semaphore. -/
theorem frame_merge_reference : Cert.quiescent_MergeReferenceIdeal := fun m ρ _ =>
  (θ_run Cert.MergeReferenceIdeal.defs _ _).mono
    (fun r h => ⟨fun c => (h c).2, sem_eq_zero_of_no_sems (by decide) r.2⟩) (Cert.MergeReferenceIdeal.Value.run m ρ)

/-- the merge call computes its reference's function of the same arguments. -/
theorem algebraic_merge : Cert.algebraic_MergeIdeal_MergeReferenceIdeal := by
  pair_intro
  · run_from Cert.MergeIdeal.Gen.run_main m g
  · run_from Cert.MergeReferenceIdeal.Value.run m' g'
    refine (Cert.Join.res_eq m' c).trans ?_
    obtain ⟨e0, e1, e2, e3, e4, e5, e6, e7, e8, e9, e10⟩ := hagree c
    rw [e0, e1, e2, e3, e4, e5, e6, e7, e8, e9, e10]
    exact (Cert.MergeIdeal.Value.final m c).symm

end Cert.Proof

end
-- ==== Proof.Mlp.Value.lean ====
/-
  The squared-ReLU MLP call over the extended reals: what the call writes is the reference's term of the arguments.
  A row block of the call sums the hidden units in four runs of 1024 after the residual row; the reference sums all
  4096 and adds the residual once; the two are one sum (`sum_four`).
-/
module

public import proofs.«01_k».proof.Proof.Gen.MlpIdeal.Value
public import proofs.«01_k».proof.Proof.Gen.MlpReferenceIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.MlpIdeal.Value

/-! ## The row functions -/

/-- a row over its root mean square, times a weight. -/
def nrm (x w : Fin 1024 → EReal) (j : Fin 1024) : EReal :=
  x j * Ideal.rsqrt (Ideal.div (∑ k, x k * x k) (Ideal.ofBits FTy.f32 1149239296#32) + Ideal.ofBits FTy.f32 897988541#32) * w j

/-- the squared positive part of a row's product with a column. -/
def sq (h u : Fin 1024 → EReal) : EReal := max (∑ k, h k * u k) 0 * max (∑ k, h k * u k) 0

/-- a sum over 4096 hidden units, in four runs of 1024. -/
theorem sum_four (f : Fin 4096 → EReal) (g : Fin 4 → Fin 1024 → EReal)
    (hg : ∀ s k, g s k = f ⟨s.val * 1024 + k.val, by omega⟩) :
    (∑ k, g 0 k) + (∑ k, g 1 k) + (∑ k, g 2 k) + (∑ k, g 3 k) = ∑ l, f l := by
  rw [← Fin.sum_univ_four (fun s => ∑ k, g s k)]
  exact Fin.sum_mul_add_congr fun s k hl => hg s k

section Ref
open Cert.MlpReferenceIdeal Cert.MlpReferenceIdeal.Gen

def refNorm (a0 : FVec Ideal S2x8192x1024 .f32) (w : FVec Ideal S1024 .f32) : FVec Ideal S2x8192x1024 .f32 :=
  mulf (mulf a0 (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf a0 a0) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32)))))) (broadcastInDim S2x8192x1024 ![0, 1, 2] bcast_S1x1x1024_S2x8192x1024_0_1_2 (broadcastInDim S1x1x1024 ![2] bcast_S1024_S1x1x1024_2 w))

def refHidden (h : FVec Ideal S2x8192x1024 .f32) (a2 : FVec Ideal S1x1024x4096 .f32) : FVec Ideal S2x8192x4096 .f32 :=
  maximumf (Host.dotGeneral dot_S2x8192x1024_S1024x4096_S2x8192x4096_2_0_01_1_n_n none h (shapeCast _ a2 shapeCasts_S1x1024x4096_S1024x4096)) (broadcastInDim S2x8192x4096 ![] bcast_S_S2x8192x4096 (constant S_ .f32 0x00000000#32))

def refSum (a0 : FVec Ideal S2x8192x1024 .f32) (g : FVec Ideal S2x8192x4096 .f32) (a3 : FVec Ideal S1x4096x1024 .f32) : FVec Ideal S2x8192x1024 .f32 :=
  addf a0 (Host.dotGeneral dot_S2x8192x4096_S4096x1024_S2x8192x1024_2_0_01_1_n_n none (mulf g g) (shapeCast _ a3 shapeCasts_S1x4096x1024_S4096x1024))

/-- the reference's result as a term of its arguments. -/
def REF (a0 : FVec Ideal S2x8192x1024 .f32) (a1 : FVec Ideal S1x1024 .f32) (a2 : FVec Ideal S1x1024x4096 .f32) (a3 : FVec Ideal S1x4096x1024 .f32) (a4 : FVec Ideal S1024 .f32) : FVec Ideal S16384x1024 .f32 :=
  shapeCast _ (refNorm (refSum a0 (refHidden (refNorm a0 (shapeCast _ a1 shapeCasts_S1x1024_S1024)) a2) a3) a4) shapeCasts_S2x8192x1024_S16384x1024

/-- the reference's norm at an index: the row function of its row. -/
theorem refNorm_at (a0 : FVec Ideal S2x8192x1024 .f32) (w : FVec Ideal S1024 .f32) (b : Fin 2) (s : Fin 8192) (j : Fin 1024) :
    refNorm a0 w (ix3 b s j) = nrm (fun k => a0 (ix3 b s k)) (fun k => w (ix1 k)) j := by
  pointwise [refNorm]; rfl

/-- the reference at an index: row `r`'s norm, its hidden units, the residual sum and the last norm. -/
theorem REF_at (a0 : FVec Ideal S2x8192x1024 .f32) (a1 : FVec Ideal S1x1024 .f32) (a2 : FVec Ideal S1x1024x4096 .f32)
    (a3 : FVec Ideal S1x4096x1024 .f32) (a4 : FVec Ideal S1024 .f32) (r : Fin 16384) (j : Fin 1024)
    (b : Fin 2) (s : Fin 8192) (hr : r.val = b.val * 8192 + s.val) :
    REF a0 a1 a2 a3 a4 (ix2 r j) = nrm (fun j => a0 (ix3 b s j) + ∑ l : Fin 4096,
        sq (nrm (fun k => a0 (ix3 b s k)) fun k => a1 (ix2 0 k)) (fun k => a2 (ix3 0 k l)) * a3 (ix3 0 l j))
      (fun k => a4 (ix1 k)) j := by
  have hb : (⟨r.val / 8192, by omega⟩ : Fin 2) = b := Fin.ext (by simp only; omega)
  have hs : (⟨r.val % 8192, by omega⟩ : Fin 8192) = s := Fin.ext (by simp only; omega)
  pointwise [REF]
  rw [hb, hs, refNorm_at]
  congr 1; funext k
  pointwise [refSum, refHidden]
  congr 1; refine Finset.sum_congr rfl fun l _ => ?_
  simp only [refNorm_at]
  pointwise
  rfl
end Ref

open Cert.MlpIdeal Cert.MlpIdeal.Gen

variable (m : (ℓ : Loc nD τ sig) → Buf (Elt Ideal) ℓ)

/-- one row block's stored words, from the block's rows, the weights' chunks and the scales, at any float values. -/
def rows {F : FTy → Type} [FloatOps F] (x : Vec F S256x1024 .f32) (n : Vec F S1x1024 .f32) (u0 d0 u1 d1 u2 d2 u3 d3 : Vec F S1024x1024 .bf16) (f : Vec F S1x1024 .f32) : FVec F S256x1024 .f32 :=
  k0_pay5 (k0_pay2 x n) (k0_pay3 x n u0 d0) (k0_pay4 x n u1 d1) u2 d2 u3 d3 f

theorem rows0 {F : FTy → Type} [FloatOps F] (x : Vec F S256x1024 .f32) (n : Vec F S1x1024 .f32) (u0 d0 u1 d1 u2 d2 u3 d3 : Vec F S1024x1024 .bf16) (f : Vec F S1x1024 .f32) :
  k0_pay5 (k0_pay2 x n) (k0_pay3 x n u0 d0) (k0_pay4 x n u1 d1) u2 d2 u3 d3 f = rows x n u0 d0 u1 d1 u2 d2 u3 d3 f := rfl
theorem rows1 {F : FTy → Type} [FloatOps F] (x : Vec F S256x1024 .f32) (n : Vec F S1x1024 .f32) (u0 d0 u1 d1 u2 d2 u3 d3 : Vec F S1024x1024 .bf16) (f : Vec F S1x1024 .f32) :
  k0_pay9 (k0_pay7 x n) (k0_pay8 x n u0 d0 u1 d1) u2 d2 u3 d3 f = rows x n u0 d0 u1 d1 u2 d2 u3 d3 f := rfl
theorem rows2 {F : FTy → Type} [FloatOps F] (x : Vec F S256x1024 .f32) (n : Vec F S1x1024 .f32) (u0 d0 u1 d1 u2 d2 u3 d3 : Vec F S1024x1024 .bf16) (f : Vec F S1x1024 .f32) :
  k0_pay13 (k0_pay11 x n) (k0_pay12 x n u0 d0 u1 d1) u2 d2 u3 d3 f = rows x n u0 d0 u1 d1 u2 d2 u3 d3 f := rfl
theorem rows3 {F : FTy → Type} [FloatOps F] (x : Vec F S256x1024 .f32) (n : Vec F S1x1024 .f32) (u0 d0 u1 d1 u2 d2 u3 d3 : Vec F S1024x1024 .bf16) (f : Vec F S1x1024 .f32) :
  k0_pay17 (k0_pay15 x n) (k0_pay16 x n u0 d0 u1 d1) u2 d2 u3 d3 f = rows x n u0 d0 u1 d1 u2 d2 u3 d3 f := rfl

/-- the stored rows at an index. -/
theorem rows_at (x : Vec Ideal S256x1024 .f32) (n : Vec Ideal S1x1024 .f32) (u0 d0 u1 d1 u2 d2 u3 d3 : Vec Ideal S1024x1024 .bf16) (f : Vec Ideal S1x1024 .f32) (r : Fin 256) (j : Fin 1024) :
    rows x n u0 d0 u1 d1 u2 d2 u3 d3 f (ix2 r j) = nrm (fun j => x (ix2 r j)
        + (∑ l : Fin 1024, sq (nrm (fun k => x (ix2 r k)) fun k => n (ix2 0 k)) (fun k => u0 (ix2 k l)) * d0 (ix2 l j))
        + (∑ l : Fin 1024, sq (nrm (fun k => x (ix2 r k)) fun k => n (ix2 0 k)) (fun k => u1 (ix2 k l)) * d1 (ix2 l j))
        + (∑ l : Fin 1024, sq (nrm (fun k => x (ix2 r k)) fun k => n (ix2 0 k)) (fun k => u2 (ix2 k l)) * d2 (ix2 l j))
        + (∑ l : Fin 1024, sq (nrm (fun k => x (ix2 r k)) fun k => n (ix2 0 k)) (fun k => u3 (ix2 k l)) * d3 (ix2 l j)))
      (fun k => f (ix2 0 k)) j := by
  have hnorm : ∀ k, k0_pay2 x n (ix2 r k) = nrm (fun k => x (ix2 r k)) (fun k => n (ix2 0 k)) k := fun k => by
    pointwise [k0_pay2, k0_pay1]; rfl
  pointwise [rows, k0_pay3, k0_pay4, k0_pay5, k0_pay1]
  simp only [hnorm]
  rfl

/-- the stored rows are the reference's: the four chunks of hidden units summed are all of them. -/
theorem core (x : Vec Ideal S256x1024 .f32) (n : Vec Ideal S1x1024 .f32) (u0 d0 u1 d1 u2 d2 u3 d3 : Vec Ideal S1024x1024 .bf16) (f : Vec Ideal S1x1024 .f32)
    (a0 : FVec Ideal Cert.MlpReferenceIdeal.S2x8192x1024 .f32) (a1 : FVec Ideal S1x1024 .f32) (a2 : FVec Ideal S1x1024x4096 .f32)
    (a3 : FVec Ideal S1x4096x1024 .f32) (a4 : FVec Ideal S1024 .f32)
    (r : Fin 256) (j : Fin 1024) (R : Fin 16384) (b : Fin 2) (s : Fin 8192) (hR : R.val = b.val * 8192 + s.val)
    (hx : ∀ k : Fin 1024, x (ix2 r k) = a0 (ix3 b s k)) (hn : ∀ k : Fin 1024, n (ix2 0 k) = a1 (ix2 0 k))
    (hf : ∀ k : Fin 1024, f (ix2 0 k) = a4 (ix1 k))
    (hu : ∀ (g : Fin 4) (k l : Fin 1024), ![u0, u1, u2, u3] g (ix2 k l) = a2 (ix3 0 k ⟨g.val * 1024 + l.val, by omega⟩))
    (hd : ∀ (g : Fin 4) (l k : Fin 1024), ![d0, d1, d2, d3] g (ix2 l k) = a3 (ix3 0 ⟨g.val * 1024 + l.val, by omega⟩ k)) :
    rows x n u0 d0 u1 d1 u2 d2 u3 d3 f (ix2 r j) = REF a0 a1 a2 a3 a4 (ix2 R j) := by
  rw [rows_at, REF_at a0 a1 a2 a3 a4 R j b s hR]
  simp only [hx, hn, hf]
  congr 1; funext i
  simp only [add_assoc]; congr 1; simp only [← add_assoc]
  refine sum_four _ (fun g l => sq (nrm (fun k => a0 (ix3 b s k)) fun k => a1 (ix2 0 k)) (fun k => ![u0, u1, u2, u3] g (ix2 k l)) * ![d0, d1, d2, d3] g (ix2 l i)) fun g l => ?_
  simp only [hu, hd]

theorem idx_val : ∀ t : Fin cfg0.N, win0_0.index t = ![t.val, 0]
    ∧ win0_1.index t = ![0, 0]
    ∧ win0_2.index t = ![0, 0]
    ∧ win0_3.index t = ![0, 0]
    ∧ win0_4.index t = ![0, 0]
    ∧ win0_5.index t = ![t.val, 0] :=
  (by decide +kernel : ∀ t : Fin grid0.N, _)

/-- a block's row of the input, at the row's batch and position. -/
theorem blk0 (c : Dev nD) (t : Fin cfg0.N) (p k : Fin 1024) (b : Fin 2) (s : Fin 8192) (h : t.val * 1024 + p.val = b.val * 8192 + s.val) :
    iblk m c 0 t (ix2 p k) = m ((c : Thread nD τ).loc main_arg0) (ix3 b s k) := by
  blk_simp [iblk]; entry_read; pointwise; blk_ext [idx_val t]
theorem blk1 (c : Dev nD) (t : Fin cfg0.N) (k : Fin 1024) :
    iblk m c 1 t (ix2 0 k) = m ((c : Thread nD τ).loc main_arg1) (ix2 0 k) := by
  blk_simp [iblk]; entry_read; pointwise; blk_ext [idx_val t]
theorem blk2 (c : Dev nD) (t : Fin cfg0.N) (k : Fin 1024) (l : Fin 4096) :
    iblk m c 2 t (ix2 k l) = m ((c : Thread nD τ).loc main_arg2) (ix3 0 k l) := by
  blk_simp [iblk]; entry_read; pointwise; blk_ext [idx_val t]
theorem blk3 (c : Dev nD) (t : Fin cfg0.N) (l : Fin 4096) (k : Fin 1024) :
    iblk m c 3 t (ix2 l k) = m ((c : Thread nD τ).loc main_arg3) (ix3 0 l k) := by
  blk_simp [iblk]; entry_read; pointwise; blk_ext [idx_val t]
theorem blk4 (c : Dev nD) (t : Fin cfg0.N) (k : Fin 1024) :
    iblk m c 4 t (ix2 0 k) = m ((c : Thread nD τ).loc main_arg4) (ix1 k) := by
  blk_simp [iblk]; entry_read; pointwise; blk_ext [idx_val t]

/-- what point `t` writes is the reference's rows of its block. -/
theorem point (c : Dev nD) (t : Fin cfg0.N) (y) :
    out0_5 (iblk m c 0 t) (iblk m c 1 t) (iblk m c 2 t) (iblk m c 3 t) (iblk m c 4 t) y
      = REF (m ((c : Thread nD τ).loc main_arg0)) (m ((c : Thread nD τ).loc main_arg1)) (m ((c : Thread nD τ).loc
        main_arg2)) (m ((c : Thread nD τ).loc main_arg3)) (m ((c : Thread nD τ).loc main_arg4)) (((cfg0.win 5).blk
        t).view.emb y) := by
  have hN : t.val < 16 := t.isLt
  have hy : (y 0).val < 1024 := (y 0).isLt
  have hN : t.val < 16 := t.isLt
  have e : ∀ (R : Fin 16384) (j : Fin 1024), R.val = t.val * 1024 + (y 0).val → j.val = (y 1).val →
      ((cfg0.win 5).blk t).view.emb y = ix2 R j := fun R j hR hj => by
    blk_ext [idx_val t]
  generalize ((cfg0.win 5).blk t).view.emb y = z at e ⊢
  canon_tiles x h
  all_goals idx_vars x
  all_goals
    first | rw [rows0] | rw [rows1] | rw [rows2] | rw [rows3]
    have hR : t.val * 1024 + (y 0).val < 16384 := by omega
    rw [e ⟨t.val * 1024 + (y 0).val, hR⟩ x1 rfl h1.symm]
    refine core _ _ _ _ _ _ _ _ _ _ _ _ _ _ _ _ _ _ _ ⟨(t.val * 1024 + (y 0).val) / 8192, by omega⟩
      ⟨(t.val * 1024 + (y 0).val) % 8192, by omega⟩ (by simp only; omega) (fun k => ?_) (fun k => ?_) (fun k => ?_)
      (fun g k l => ?_) (fun g l k => ?_)
    · pointwise; exact blk0 m c t _ k _ _ (by simp only; omega)
    · pointwise; exact blk1 m c t k
    · pointwise; exact blk4 m c t k
    · fin_cases g <;> (simp only [Matrix.cons_val]; pointwise; exact (blk2 m c t k _).trans (by blk_ext))
    · fin_cases g <;> (simp only [Matrix.cons_val]; pointwise; exact (blk3 m c t _ k).trans (by blk_ext))

/-- the array the call writes is the reference's result. -/
theorem final (c : Dev nD) : (dats m 0 c).arrAt 5 (cfgs 0).N = REF (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t hf y => ?_
  blk_simp; rw [after0_5]
  exact point m c t y

end Cert.MlpIdeal.Value
end
-- ==== Proof.Mlp.Claim.lean ====
/-
  The claims about the MLP call and its reference: frames, and the value claim over the extended reals.
-/
module

public import proofs.«01_k».proof.Defs
public import proofs.«01_k».proof.Proof.Gen.Mlp.Frame
public import proofs.«01_k».proof.Proof.Mlp.Value
public import Idealize.ShloMosaic.Lib.Claim

@[expose] public section

noncomputable section

namespace Cert.Proof

open Idealize.ShloMosaic Idealize.SL.Sem

/-- the reference's run read at its arguments; it declares no semaphore. -/
theorem frame_mlp_reference : Cert.quiescent_MlpReferenceIdeal := fun m ρ _ =>
  (θ_run Cert.MlpReferenceIdeal.defs _ _).mono
    (fun r h => ⟨fun c => (h c).2, sem_eq_zero_of_no_sems (by decide) r.2⟩) (Cert.MlpReferenceIdeal.Value.run m ρ)

/-- the MLP call computes its reference's function of the same arguments. -/
theorem algebraic_mlp : Cert.algebraic_MlpIdeal_MlpReferenceIdeal := by
  pair_intro
  · run_from Cert.MlpIdeal.Gen.run_main m g
  · run_from Cert.MlpReferenceIdeal.Value.run m' g'
    refine Eq.trans (b := Cert.MlpIdeal.Value.REF (m' ((c.tc : Thread _ _).loc Cert.MlpReferenceIdeal.main_arg0))
      (m' ((c.tc : Thread _ _).loc Cert.MlpReferenceIdeal.main_arg1))
      (m' ((c.tc : Thread _ _).loc Cert.MlpReferenceIdeal.main_arg2))
      (m' ((c.tc : Thread _ _).loc Cert.MlpReferenceIdeal.main_arg3))
      (m' ((c.tc : Thread _ _).loc Cert.MlpReferenceIdeal.main_arg4))) rfl ?_
    obtain ⟨e0, e1, e2, e3, e4⟩ := hagree c
    rw [e0, e1, e2, e3, e4]
    exact (Cert.MlpIdeal.Value.final m c).symm

end Cert.Proof

end
-- ==== Proof.Ret.Run.lean ====
/-
  The retention call's body at one grid point, its unrolled stores given by position: the stored states and the chunks'
  outputs as lists over the chunk's number.
-/
module

public import proofs.«01_k».proof.Proof.Gen.KernelIdeal.Value
public import Idealize.ShloMosaic.Lib.Pipeline.ValueKit

@[expose] public section

set_option maxRecDepth 16384

noncomputable section

open Idealize.ShloMosaic Idealize.ShloMosaic.TcCoe Idealize.SL.Sem
open Cert.KernelIdeal Cert.KernelIdeal.Gen

namespace Cert.KernelIdeal.Value

section Uniform
variable {F : FTy → Type} [FloatOps F]

theorem inb_kt (n : ℕ) : ∀ a, (![0, 0, 0, 256 * (n % 32)] : Fin 4 → ℕ) a + S1x1x128x256.size a ≤ S1x1x128x8192.size a := by
  have h := Nat.mod_lt n (show 32 > 0 by norm_num)
  intro a; fin_cases a <;> simp <;> omega
theorem inb_v (n : ℕ) : ∀ a, (![0, 0, 256 * (n % 32), 0] : Fin 4 → ℕ) a + S1x1x256x256.size a ≤ S1x1x8192x256.size a := by
  have h := Nat.mod_lt n (show 32 > 0 by norm_num)
  intro a; fin_cases a <;> simp <;> omega
theorem inb_q (n : ℕ) : ∀ a, (![0, 0, 256 * (n % 32), 0] : Fin 4 → ℕ) a + S1x1x256x128.size a ≤ S1x1x8192x128.size a := by
  have h := Nat.mod_lt n (show 32 > 0 by norm_num)
  intro a; fin_cases a <;> simp <;> omega
theorem inb_f (n : ℕ) : ∀ a, (![n % 32, 0, 0] : Fin 3 → ℕ) a + S1x128x256.size a ≤ S32x256x256.size a := by
  have h := Nat.mod_lt n (show 32 > 0 by norm_num)
  intro a; fin_cases a <;> simp <;> omega
theorem inb_b (n : ℕ) : ∀ a, (![n % 32, 128, 0] : Fin 3 → ℕ) a + S1x128x256.size a ≤ S32x256x256.size a := by
  have h := Nat.mod_lt n (show 32 > 0 by norm_num)
  intro a; fin_cases a <;> simp <;> omega
theorem inb_r (n : ℕ) : ∀ a, (![n % 32, 0, 0] : Fin 3 → ℕ) a + S1x256x256.size a ≤ S32x256x256.size a := by
  have h := Nat.mod_lt n (show 32 > 0 by norm_num)
  intro a; fin_cases a <;> simp <;> omega

/-- chunk `n` of the queries, the transposed keys and the values, as the call loads them. -/
def Qc (arg3 : Memref sig .tc .vmem S1x1x8192x128 .bf16) (h : arg3.IsWhole) (x1 : Vec F S1x1x8192x128 .bf16) (n : ℕ) : Vec F S1x1x256x128 .bf16 :=
  View.readAt (Elt F) arg3.view (Rect.unit (s := S1x1x8192x128) ![0, 0, 256 * (n % 32), 0] S1x1x256x128.size (inb_q n)).toLoadRect (h.unread x1)
def Kc (arg4 : Memref sig .tc .vmem S1x1x128x8192 .bf16) (h : arg4.IsWhole) (x2 : Vec F S1x1x128x8192 .bf16) (n : ℕ) : Vec F S1x1x128x256 .bf16 :=
  View.readAt (Elt F) arg4.view (Rect.unit (s := S1x1x128x8192) ![0, 0, 0, 256 * (n % 32)] S1x1x128x256.size (inb_kt n)).toLoadRect (h.unread x2)
def Vc (arg5 : Memref sig .tc .vmem S1x1x8192x256 .bf16) (h : arg5.IsWhole) (x3 : Vec F S1x1x8192x256 .bf16) (n : ℕ) : Vec F S1x1x256x256 .bf16 :=
  View.readAt (Elt F) arg5.view (Rect.unit (s := S1x1x8192x256) ![0, 0, 256 * (n % 32), 0] S1x1x256x256.size (inb_v n)).toLoadRect (h.unread x3)

def fwd (g : FVec F S1x256 .f32) (z : Vec F S1x128x256 .bf16) (K : ℕ → Vec F S1x1x128x256 .bf16) (V : ℕ → Vec F S1x1x256x256 .bf16) : ℕ → FVec F S128x256 .f32
  | 0 => k0_pay17
  | n + 1 => k0_pay21 g (fwd g z K V n) (K n) z (V n)

def bwd (g : FVec F S1x256 .f32) (z : Vec F S1x128x256 .bf16) (K : ℕ → Vec F S1x1x128x256 .bf16) (V : ℕ → Vec F S1x1x256x256 .bf16) : ℕ → FVec F S128x256 .f32
  | 0 => k0_pay17
  | n + 1 => k0_pay22 g (bwd g z K V n) (K (31 - n)) z (V (31 - n))

/-- the stores of the first `n` loop steps into the state scratch, newest first. -/
def stores (f b : ℕ → FVec F S128x256 .f32) : ℕ → List (View.Piece (Elt F) S32x256x256 .bf16)
  | 0 => []
  | n + 1 => ⟨Rect.unit ![(31 - n) % 32, 128, 0] S1x128x256.size (inb_b (31 - n)), k0_pay24 (b n)⟩
      :: ⟨Rect.unit ![n % 32, 0, 0] S1x128x256.size (inb_f n), k0_pay23 (f n)⟩ :: stores f b n

def outs (O : ℕ → FVec F S1x1x256x256 .bf16) : ℕ → List (View.Piece (Elt F) S1x1x8192x256 .bf16)
  | 0 => []
  | n + 1 => ⟨Rect.unit ![0, 0, 256 * (n % 32), 0] S1x1x256x256.size (inb_v n), O n⟩ :: outs O n

def outc (q : Vec F S1x1x256x128 .bf16) (k : Vec F S1x1x128x256 .bf16) (D : Vec F S256x256 .f32) (X : Vec F S256x256 .bf16) (v : Vec F S1x1x256x256 .bf16) (r : Vec F S1x256x256 .bf16) :
    FVec F S1x1x256x256 .bf16 := k0_pay193 (k0_pay191 q) (k0_pay192 q k) D X v r

open kernelRun0_A in
theorem stores_eq (c : Dev nD) (arg2 : Memref sig .tc .vmem S1x2x256 .f32) (harg2 : arg2.IsWhole) (arg4 : Memref sig .tc .vmem S1x1x128x8192 .bf16) (harg4 : arg4.IsWhole)
    (arg5 : Memref sig .tc .vmem S1x1x8192x256 .bf16) (harg5 : arg5.IsWhole) (arg9 : Memref sig .tc .vmem S2x128x256 .bf16)
    (x0 : Vec F S1x2x256 .f32) (x2 : Vec F S1x1x128x8192 .bf16) (x3 : Vec F S1x1x8192x256 .bf16) :
    sl.HS0_64 c arg2 harg2 arg4 harg4 arg5 harg5 arg9 x0 x2 x3
      = stores (fwd (sl.r_5 c arg2 harg2 x0) (sl.v93 c arg2 harg2 arg9 x0) (Kc arg4 harg4 x2) (Vc arg5 harg5 x3))
          (bwd (sl.r_6 c arg2 harg2 x0) (sl.v99 c arg2 harg2 arg9 x0) (Kc arg4 harg4 x2) (Vc arg5 harg5 x3)) 32 := by
  sl_kernel_rfl
/-- the state of chunk `n`, read back from the scratch. -/
def Sc (arg7 : Memref sig .tc .vmem S32x256x256 .bf16) (L : List (View.Piece (Elt F) S32x256x256 .bf16)) (n : ℕ) : Vec F S1x256x256 .bf16 :=
  arg7.view.readCov L (Rect.unit (s := S32x256x256) ![n % 32, 0, 0] S1x256x256.size (inb_r n)).toLoadRect

open kernelRun0_A in
theorem outs_eq (c : Dev nD) (i : grid0.Coords) (arg2 : Memref sig .tc .vmem S1x2x256 .f32) (harg2 : arg2.IsWhole) (arg3 : Memref sig .tc .vmem S1x1x8192x128 .bf16) (harg3 : arg3.IsWhole)
    (arg4 : Memref sig .tc .vmem S1x1x128x8192 .bf16) (harg4 : arg4.IsWhole)
    (arg5 : Memref sig .tc .vmem S1x1x8192x256 .bf16) (harg5 : arg5.IsWhole) (arg6 : Memref sig .tc .vmem S1x1x8192x256 .bf16) (harg6 : arg6.IsWhole)
    (arg7 : Memref sig .tc .vmem S32x256x256 .bf16) (harg7 : arg7.IsWhole) (arg8 : Memref sig .tc .vmem S256x256 .f32) (harg8 : arg8.IsWhole)
    (arg9 : Memref sig .tc .vmem S2x128x256 .bf16) (harg9 : arg9.IsWhole) (arg10 : Memref sig .tc .vmem S256x256 .bf16) (harg10 : arg10.IsWhole)
    (x0 : Vec F S1x2x256 .f32) (x1 : Vec F S1x1x8192x128 .bf16) (x2 : Vec F S1x1x128x8192 .bf16) (x3 : Vec F S1x1x8192x256 .bf16) :
    (kernelRun0_A c i arg2 harg2 arg3 harg3 arg4 harg4 arg5 harg5 arg6 harg6 arg7 harg7 arg8 harg8 arg9 harg9 arg10 harg10 x0 x1 x2 x3).1
      = outs (fun n => outc (Qc arg3 harg3 x1 n) (Kc arg4 harg4 x2 n) (sl.v1396 c arg2 harg2 arg8 x0) (sl.v1400 c arg2 harg2 arg10 x0) (Vc arg5 harg5 x3 n)
          (Sc arg7 (sl.HS0_64 c arg2 harg2 arg4 harg4 arg5 harg5 arg9 x0 x2 x3) n)) 32 := by
  sl_kernel_rfl

end Uniform
end Cert.KernelIdeal.Value
end
-- ==== Proof.Ret.Math.lean ====
/-
  The real arithmetic of the chunked retention: the decayed sums over all earlier (and all later) positions, folded
  chunk by chunk into a state, are the sums themselves.
-/
module

public import Idealize.ShloMosaic.Lib.Pipeline.ValueKit

@[expose] public section

noncomputable section

namespace Cert.Retention

open Finset

/-- The forward state before chunk `c`: the states of the chunks before it, each decayed to the start of chunk `c`. -/
def fstate (a : ℝ) (k v : ℕ → ℝ) : ℕ → ℝ
  | 0 => 0
  | c + 1 => a ^ 256 * fstate a k v c + ∑ i ∈ range 256, k (256 * c + i) * a ^ (255 - i) * v (256 * c + i)

/-- The backward state after `t` chunks from the end: those of the last `t` chunks, decayed to the first position of the earliest. -/
def bstate (b : ℝ) (k v : ℕ → ℝ) : ℕ → ℝ
  | 0 => 0
  | t + 1 => b ^ 256 * bstate b k v t
      + ∑ i ∈ range 256, k (256 * (31 - t) + i) * b ^ i * v (256 * (31 - t) + i)

/-- The forward state is the decayed sum over every position before the chunk. -/
theorem fstate_eq (a : ℝ) (k v : ℕ → ℝ) (c : ℕ) :
    fstate a k v c = ∑ m ∈ range (256 * c), k m * a ^ (256 * c - 1 - m) * v m := by
  induction c with
  | zero => simp [fstate]
  | succ c ih =>
    rw [fstate, ih, show 256 * (c + 1) = 256 * c + 256 from by ring, sum_range_add, mul_sum]
    congr 1
    · refine sum_congr rfl fun m hm => ?_
      have hm := mem_range.1 hm
      rw [show 256 * c + 256 - 1 - m = 256 + (256 * c - 1 - m) from by omega, pow_add]; ring
    · refine sum_congr rfl fun i hi => ?_
      have hi := mem_range.1 hi
      rw [show 256 * c + 256 - 1 - (256 * c + i) = 255 - i from by omega]

/-- The backward state is the decayed sum over every position of the last `t` chunks. -/
theorem bstate_eq (b : ℝ) (k v : ℕ → ℝ) (t : ℕ) (ht : t ≤ 32) :
    bstate b k v t = ∑ j ∈ range (256 * t), k (256 * (32 - t) + j) * b ^ j * v (256 * (32 - t) + j) := by
  induction t with
  | zero => simp [bstate]
  | succ t ih =>
    rw [bstate, ih (by omega), show 256 * (t + 1) = 256 + 256 * t from by ring, sum_range_add, mul_sum, add_comm]
    congr 1
    · exact sum_congr rfl fun j _ => by rw [show 32 - (t + 1) = 31 - t from by omega]
    refine sum_congr rfl fun j hj => ?_
    rw [show 256 * (32 - (t + 1)) + (256 + j) = 256 * (32 - t) + j from by omega, pow_add]; ring

/-- The weight of position `m` seen from position `n`: decayed by the forward factor up to `n`, by the backward factor after. -/
def weight (a b : ℝ) (n m : ℕ) : ℝ := if m ≤ n then a ^ (n - m) else b ^ (m - n)

/-- The retention of one value channel at position `n`: every position's value, weighted by its score and its decay. -/
def total (a b : ℝ) (q k : ℕ → ℕ → ℝ) (v : ℕ → ℝ) (n : ℕ) : ℝ :=
  ∑ m ∈ range 8192, (∑ d ∈ range 128, q n d * k m d) * weight a b n m * v m

/-- Chunk `c`'s output — its own positions, the forward state and the backward state — is the retention at each of its positions. -/
theorem chunk_total (a b : ℝ) (q k : ℕ → ℕ → ℝ) (v : ℕ → ℝ) (c i : ℕ) (hc : c < 32) (hi : i < 256) :
    (∑ j ∈ range 256, (∑ d ∈ range 128, q (256 * c + i) d * k (256 * c + j) d)
        * (if j ≤ i then a ^ (i - j) else b ^ (j - i)) * v (256 * c + j))
      + ((∑ d ∈ range 128, q (256 * c + i) d * a ^ (i + 1) * fstate a (fun m => k m d) v c)
        + ∑ d ∈ range 128, q (256 * c + i) d * b ^ (256 - i) * bstate b (fun m => k m d) v (31 - c))
      = total a b q k v (256 * c + i) := by
  unfold total
  rw [show 8192 = 256 * c + (256 + 256 * (31 - c)) from by omega, sum_range_add, sum_range_add]
  have hf : (∑ d ∈ range 128, q (256 * c + i) d * a ^ (i + 1) * fstate a (fun m => k m d) v c)
      = ∑ m ∈ range (256 * c), (∑ d ∈ range 128, q (256 * c + i) d * k m d) * weight a b (256 * c + i) m * v m := by
    simp only [fstate_eq, mul_sum, sum_mul]
    rw [sum_comm]
    refine sum_congr rfl fun m hm => sum_congr rfl fun d _ => ?_
    have hm := mem_range.1 hm
    rw [weight, if_pos (by omega), show 256 * c + i - m = (i + 1) + (256 * c - 1 - m) from by omega, pow_add]; ring
  have hb : (∑ d ∈ range 128, q (256 * c + i) d * b ^ (256 - i) * bstate b (fun m => k m d) v (31 - c))
      = ∑ j ∈ range (256 * (31 - c)), (∑ d ∈ range 128, q (256 * c + i) d * k (256 * c + (256 + j)) d)
          * weight a b (256 * c + i) (256 * c + (256 + j)) * v (256 * c + (256 + j)) := by
    simp only [bstate_eq b _ _ (31 - c) (by omega), mul_sum, sum_mul]
    rw [sum_comm]
    refine sum_congr rfl fun j _ => sum_congr rfl fun d _ => ?_
    rw [weight, if_neg (by omega), show 256 * c + (256 + j) - (256 * c + i) = (256 - i) + j from by omega, pow_add,
      show 256 * (32 - (31 - c)) + j = 256 * c + (256 + j) from by omega]; ring
  have hd : (∑ j ∈ range 256, (∑ d ∈ range 128, q (256 * c + i) d * k (256 * c + j) d)
        * (if j ≤ i then a ^ (i - j) else b ^ (j - i)) * v (256 * c + j))
      = ∑ j ∈ range 256, (∑ d ∈ range 128, q (256 * c + i) d * k (256 * c + j) d)
        * weight a b (256 * c + i) (256 * c + j) * v (256 * c + j) := by
    refine sum_congr rfl fun j _ => ?_
    rw [weight, Nat.add_sub_add_left, Nat.add_sub_add_left]
    simp only [Nat.add_le_add_iff_left]
  rw [hf, hb, hd]; ring

/-- The two directions summed — the positions up to `n`, and, in the reversed order, those strictly before `n` there — are the retention. -/
theorem directions_total (a b : ℝ) (q k : ℕ → ℕ → ℝ) (v : ℕ → ℝ) (n : ℕ) (hn : n < 8192) :
    (∑ m ∈ range 8192, (∑ d ∈ range 128, q n d * k m d) * (if m ≤ n then a ^ (n - m) else 0) * v m)
      + (∑ m ∈ range 8192, (∑ d ∈ range 128, q n d * k (8191 - m) d)
          * (if m < 8191 - n then b ^ (8191 - n - m) else 0) * v (8191 - m))
      = total a b q k v n := by
  unfold total
  rw [← sum_range_reflect (fun m => (∑ d ∈ range 128, q n d * k (8191 - m) d)
          * (if m < 8191 - n then b ^ (8191 - n - m) else 0) * v (8191 - m)), ← sum_add_distrib]
  refine sum_congr rfl fun m hm => ?_
  have hm := mem_range.1 hm
  rw [show 8191 - (8192 - 1 - m) = m from by omega, weight]
  by_cases h : m ≤ n
  · rw [if_pos h, if_pos h, if_neg (by omega)]; ring
  · rw [if_neg h, if_neg h, if_pos (by omega), show 8191 - n - (8192 - 1 - m) = m - n from by omega]; ring

end Cert.Retention
end
-- ==== Proof.Ret.Words.lean ====
/-
  The decays and the position words of the retention, over the extended reals: every decay the two programs compute is a
  natural power of one real factor per direction, and every distance word is the distance.
-/
module

public import Idealize.ShloMosaic.Lib.Pipeline.ValueKit
public import Idealize.ShloMosaic.Lib.WordCmp

@[expose] public section

noncomputable section

open Idealize.ShloMosaic
open scoped BigOperators

namespace Cert.Retention

/-- The decay of one position, from the raw parameter. -/
def decay (x : EReal) : ℝ := (Ideal.exp (-(Ideal.exp x))).toReal

/-- The decay over `n` positions is the `n`-th power, at every raw parameter (an infinite one too). -/
theorem exp_mul_nat (x : EReal) (n : ℕ) : Ideal.exp (-(Ideal.exp x) * ((n : ℝ) : EReal)) = ((decay x ^ n : ℝ) : EReal) := by
  have hb : (⊥ : EReal) * ((n : ℝ) : EReal) = if n = 0 then 0 else ⊥ := by
    split
    · subst n; simp
    · next h => exact EReal.bot_mul_coe_of_pos (by exact_mod_cast Nat.pos_of_ne_zero h)
  induction x with
  | bot =>
    have h0 : Ideal.exp (0 : EReal) = 1 := by rw [← EReal.coe_zero, Ideal.exp_coe]; simp
    rw [decay, Ideal.exp_bot, neg_zero, zero_mul, h0]; simp
  | top =>
    rw [Ideal.exp_top, EReal.neg_top, hb]
    by_cases h : n = 0
    · subst h
      rw [if_pos rfl, ← EReal.coe_zero, Ideal.exp_coe]; simp
    · rw [if_neg h]; simp [decay, h]
  | coe r =>
    rw [Ideal.exp_coe, ← EReal.coe_neg, ← EReal.coe_mul, Ideal.exp_coe, decay, Ideal.exp_coe, ← EReal.coe_neg, Ideal.exp_coe, EReal.toReal_coe,
      ← Real.exp_nat_mul, mul_comm]

theorem exp_mul_of (x y : EReal) (n : ℕ) (h : y = ((n : ℝ) : EReal)) : Ideal.exp ((0 - Ideal.exp x) * y) = ((decay x ^ n : ℝ) : EReal) := by
  rw [h, zero_sub, exp_mul_nat]

theorem toInt_ofNat {n : ℕ} (h : n < 8192) : (BitVec.ofNat 32 n).toInt = n := by
  rw [BitVec.toInt_eq_toNat_cond, BitVec.toNat_ofNat, Nat.mod_eq_of_lt (by omega), if_pos (by omega)]

theorem toInt_sub {i j : ℕ} (hi : i < 8192) (hj : j < 8192) :
    (IntOp.subi (BitVec.ofNat 32 i) (BitVec.ofNat 32 j)).toInt = (i : ℤ) - j := by
  rw [IntOp.subi, BitVec.toInt_sub, toInt_ofNat hi, toInt_ofNat hj]
  apply Int.bmod_eq_of_le <;> omega

/-- A position word as a float is the position. -/
theorem pos_word {n : ℕ} (h : n < 8192) : (FloatOps.sitofp FTy.f32 (BitVec.ofNat 32 n) : Ideal .f32) = ((n : ℝ) : EReal) := by
  show (((BitVec.ofNat 32 n).toInt : ℝ) : EReal) = _
  rw [toInt_ofNat h]; norm_cast

/-- The positive part of a distance word as a float is the truncated distance. -/
theorem dist_word {i j : ℕ} (hi : i < 8192) (hj : j < 8192) :
    (FloatOps.sitofp FTy.f32 (IntOp.maxsi (IntOp.subi (BitVec.ofNat 32 i) (BitVec.ofNat 32 j)) 0#32) : Ideal .f32) = (((i - j : ℕ) : ℝ) : EReal) := by
  show (((IntOp.maxsi (IntOp.subi (BitVec.ofNat 32 i) (BitVec.ofNat 32 j)) 0#32).toInt : ℝ) : EReal) = _
  have e : (IntOp.maxsi (IntOp.subi (BitVec.ofNat 32 i) (BitVec.ofNat 32 j)) 0#32).toInt = ((i - j : ℕ) : ℤ) := by
    have h := toInt_sub hi hj
    unfold IntOp.maxsi
    by_cases hs : (0#32 : BitVec 32).slt (IntOp.subi (BitVec.ofNat 32 i) (BitVec.ofNat 32 j)) = true
    · rw [if_pos hs, h]
      have := BitVec.slt_iff_toInt_lt.mp hs
      rw [h] at this; simp at this; omega
    · rw [if_neg hs]
      have : ¬ ((0#32 : BitVec 32).toInt < (IntOp.subi (BitVec.ofNat 32 i) (BitVec.ofNat 32 j)).toInt) := fun h => hs (BitVec.slt_iff_toInt_lt.mpr h)
      rw [h] at this; simp at this ⊢; omega
  rw [e]; norm_cast

theorem sge_word {α : Type} {i j : ℕ} (hi : i < 8192) (hj : j < 8192) (x y : α) :
    Scalar.select (IntOp.cmpi CmpIPredicate.sge (BitVec.ofNat 32 i) (BitVec.ofNat 32 j)) x y = if j ≤ i then x else y := by
  rw [WordCmp.cmpi_sge_eq, WordCmp.select_ofBool, toInt_ofNat hi, toInt_ofNat hj]; simp

theorem sge_dist {α : Type} {i j : ℕ} (hi : i < 8192) (hj : j < 8192) (x y : α) :
    Scalar.select (IntOp.cmpi CmpIPredicate.sge (IntOp.subi (BitVec.ofNat 32 i) (BitVec.ofNat 32 j)) 0#32) x y = if j ≤ i then x else y := by
  rw [WordCmp.cmpi_sge_eq, WordCmp.select_ofBool, toInt_sub hi hj]; simp

theorem sgt_dist {α : Type} {i j : ℕ} (hi : i < 8192) (hj : j < 8192) (x y : α) :
    Scalar.select (IntOp.cmpi CmpIPredicate.sgt (IntOp.subi (BitVec.ofNat 32 i) (BitVec.ofNat 32 j)) 0#32) x y = if j < i then x else y := by
  rw [WordCmp.cmpi_sgt_eq, WordCmp.select_ofBool, toInt_sub hi hj]; simp

theorem bits_255 : Ideal.ofBits FTy.f32 1132396544#32 = ((255 : ℝ) : EReal) := by
  simp [Ideal.ofBits, Ideal.ieee]; rw [← EReal.coe_mul]; norm_num
theorem bits_256 : Ideal.ofBits FTy.f32 1132462080#32 = ((256 : ℝ) : EReal) := by
  simp [Ideal.ofBits, Ideal.ieee]; rw [← EReal.coe_mul]; norm_num

/-- A sum of products of reals, taken among the extended reals, is the real sum, over the naturals below the bound. -/
theorem coe_sum {n : ℕ} (f : Fin n → EReal) (g : ℕ → ℝ) (h : ∀ i : Fin n, f i = ((g i.val : ℝ) : EReal)) :
    ∑ i, f i = ((∑ i ∈ Finset.range n, g i : ℝ) : EReal) := by
  rw [Finset.sum_range, Finset.sum_congr rfl fun i _ => h i]
  exact (map_sum (⟨⟨fun r : ℝ => (r : EReal), EReal.coe_zero⟩, EReal.coe_add⟩ : ℝ →+ EReal) (fun i : Fin n => g i.val) Finset.univ).symm

end Cert.Retention
end
-- ==== Proof.Ret.Ref.lean ====
/-
  The reference's retention at an index, over the extended reals: the normalised row of the full retention.
-/
module

public import proofs.«01_k».proof.Proof.Gen.ReferenceIdeal.Run
public import proofs.«01_k».proof.Proof.Ret.Math
public import proofs.«01_k».proof.Proof.Ret.Words

@[expose] public section

set_option maxRecDepth 16384

noncomputable section

open Idealize.ShloMosaic Idealize.ShloMosaic.TcCoe Idealize.SL.Sem
open Cert.ReferenceIdeal Cert.ReferenceIdeal.Gen
open scoped BigOperators

namespace Cert.Retention

/-- the distances between positions. -/
def refDiff : IVec S8192x8192 32 :=
  subi (broadcastInDim S8192x8192 ![0, 1] bcast_S8192x1_S8192x8192_0_1 (broadcastInDim S8192x1 ![0] bcast_S8192_S8192x1_0 (iotaInDim S8192 32 0)))
    (broadcastInDim S8192x8192 ![0, 1] bcast_S1x8192_S8192x8192_0_1 (broadcastInDim S1x8192 ![1] bcast_S8192_S1x8192_1 (iotaInDim S8192 32 0)))

/-- the masked decays of one direction, by head. -/
def refDecay (p : CmpIPredicate) (lg : FVec Ideal S8 .f32) : FVec Ideal S8x8192x8192 .f32 :=
  select (broadcastInDim S8x8192x8192 ![0, 1, 2] bcast_S1x8192x8192_S8x8192x8192_0_1_2 (broadcastInDim S1x8192x8192 ![1, 2] bcast_S8192x8192_S1x8192x8192_1_2
      (cmpi p refDiff (broadcastInDim S8192x8192 ![] bcast_S_S8192x8192 (constantI S_ 32 0#32)))))
    (Host.exp (mulf
      (broadcastInDim S8x8192x8192 ![0, 1, 2] bcast_S8x1x1_S8x8192x8192_0_1_2 (broadcastInDim S8x1x1 ![0] bcast_S8_S8x1x1_0 lg))
      (broadcastInDim S8x8192x8192 ![0, 1, 2] bcast_S1x8192x8192_S8x8192x8192_0_1_2 (sitofp FTy.f32 (broadcastInDim S1x8192x8192 ![1, 2] bcast_S8192x8192_S1x8192x8192_1_2
        (maxsi refDiff (broadcastInDim S8192x8192 ![] bcast_S_S8192x8192 (constantI S_ 32 0#32))))))))
    (broadcastInDim S8x8192x8192 ![] bcast_S_S8x8192x8192 (id (constant S_ FTy.f32 0#32)))

/-- one direction of the retention: the decayed scores on the values. -/
def refDir (p : CmpIPredicate) (lg : FVec Ideal S8 .f32) (q k : FVec Ideal S2x8192x8x128 .f32) (v : FVec Ideal S2x8192x8x256 .f32) : FVec Ideal S2x8192x8x256 .f32 :=
  transpose S2x8192x8x256 [0, 2, 1, 3]
    (Host.dotGeneral dot_S2x8x8192x8192_S2x8x8192x256_S2x8x8192x256_3_2_2_3_01_01 none
      (mulf
        (Host.dotGeneral dot_S2x8x8192x128_S2x8x8192x128_S2x8x8192x8192_3_3_2_2_01_01 none
          (transpose S2x8x8192x128 [0, 2, 1, 3] q transposes_S2x8192x8x128_S2x8x8192x128_0_2_1_3)
          (transpose S2x8x8192x128 [0, 2, 1, 3] k transposes_S2x8192x8x128_S2x8x8192x128_0_2_1_3))
        (broadcastInDim S2x8x8192x8192 ![0, 1, 2, 3] bcast_S1x8x8192x8192_S2x8x8192x8192_0_1_2_3
          (broadcastInDim S1x8x8192x8192 ![1, 2, 3] bcast_S8x8192x8192_S1x8x8192x8192_1_2_3 (refDecay p lg))))
      (transpose S2x8x8192x256 [0, 2, 1, 3] v transposes_S2x8192x8x256_S2x8x8192x256_0_2_1_3))
    transposes_S2x8x8192x256_S2x8192x8x256_0_2_1_3

/-- one direction's log decay, by head. -/
def refLg (o : Fin 2 → ℕ) (h : S2x8.Slices o S1x8) (a3 : FVec Ideal S1x2x8 .f32) : FVec Ideal S8 .f32 :=
  shapeCast S8 (extractStridedSlice S1x8 o (Host.negf (Host.exp (shapeCast S2x8 a3 shapeCasts_S1x2x8_S2x8))) h) shapeCasts_S1x8_S8

/-- both directions, the second over the reversed positions and reversed back. -/
def refO (q k : FVec Ideal S2x8192x8x128 .f32) (v : FVec Ideal S2x8192x8x256 .f32) (a3 : FVec Ideal S1x2x8 .f32) : FVec Ideal S2x8192x8x256 .f32 :=
  addf (refDir .sge (refLg ![0, 0] slices_S2x8_S1x8_0_0 a3) q k v)
    (Host.reverse [1] (refDir .sgt (refLg ![1, 0] slices_S2x8_S1x8_1_0 a3) (Host.reverse [1] q) (Host.reverse [1] k) (Host.reverse [1] v)))

/-- a row's mean over its 256 channels. -/
def refMean (x : FVec Ideal S2x8192x8x256 .f32) : FVec Ideal S2x8192x8x1 .f32 :=
  Host.divf (broadcastInDim S2x8192x8x1 ![0, 1, 2] bcast_S2x8192x8_S2x8192x8x1_0_1_2
      (Host.reduceAdd x (constant S_ FTy.f32 0#32) reducesTo_S2x8192x8x256_S2x8192x8_d3 h_S_))
    (broadcastInDim S2x8192x8x1 ![] bcast_S_S2x8192x8x1 (constant S_ FTy.f32 1132462080#32))

/-- a row less its mean. -/
def refCen (x : FVec Ideal S2x8192x8x256 .f32) : FVec Ideal S2x8192x8x256 .f32 :=
  subf x (broadcastInDim S2x8192x8x256 ![0, 1, 2, 3] bcast_S2x8192x8x1_S2x8192x8x256_0_1_2_3 (refMean x))

/-- the reference's result. -/
def REF (q k : FVec Ideal S2x8192x8x128 .f32) (v : FVec Ideal S2x8192x8x256 .f32) (a3 : FVec Ideal S1x2x8 .f32) : FVec Ideal S2x8x8192x256 .bf16 :=
  truncf FTy.bf16 (transpose S2x8x8192x256 [0, 2, 1, 3]
    (mulf (refCen (refO q k v a3)) (broadcastInDim S2x8192x8x256 ![0, 1, 2, 3] bcast_S2x8192x8x1_S2x8192x8x256_0_1_2_3
      (Host.rsqrt (addf (refMean (mulf (refCen (refO q k v a3)) (refCen (refO q k v a3))))
        (broadcastInDim S2x8192x8x1 ![] bcast_S_S2x8192x8x1 (constant S_ FTy.f32 925353388#32))))))
    transposes_S2x8192x8x256_S2x8x8192x256_0_2_1_3) bitsLt_bf16_f32

/-- the run's result is these stages composed. -/
theorem res_eq (m : (ℓ : Loc nD τ sig) → Buf (Elt Ideal) ℓ) (c : Dev nD) :
    Cert.ReferenceIdeal.Value.res_main_v87 m c = REF (m ((c : Thread nD τ).loc main_arg0)) (m ((c : Thread nD τ).loc main_arg1)) (m ((c : Thread nD τ).loc main_arg2)) (m ((c : Thread nD τ).loc main_arg3)) := rfl

theorem refDecay_at (p : CmpIPredicate) (lg : FVec Ideal S8 .f32) (h : Fin 8) (i j : Fin 8192) : refDecay p lg (ix3 h i j)
    = Scalar.select (IntOp.cmpi p (IntOp.subi (BitVec.ofNat 32 i.val) (BitVec.ofNat 32 j.val)) 0#32) (Ideal.exp (lg (ix1 h) * (((i.val - j.val : ℕ) : ℝ) : EReal))) 0 := by
  rw [← dist_word i.isLt j.isLt]
  have e0 : (id (constant (F := Ideal) S_ FTy.f32 0#32) ix0 : EReal) = 0 := Ideal.ofBits_zero_f32
  pointwise [refDecay, refDiff]
  rw [e0]

theorem refDir_at (p : CmpIPredicate) (lg : FVec Ideal S8 .f32) (q k : FVec Ideal S2x8192x8x128 .f32) (v : FVec Ideal S2x8192x8x256 .f32)
    (b : Fin 2) (h : Fin 8) (i: Fin 8192) (e : Fin 256) : refDir p lg q k v (ix4 b i h e)
      = ∑ x : Fin 8192, (∑ d : Fin 128, q (ix4 b i h d) * k (ix4 b x h d)) * refDecay p lg (ix3 h i x) * v (ix4 b x h e) := by
  pointwise [refDir]

theorem rev128 (q : FVec Ideal S2x8192x8x128 .f32) (b : Fin 2) (h : Fin 8) (i: Fin 8192) (e : Fin 128) :
    (Host.reverse [1] q : FVec Ideal S2x8192x8x128 .f32) (ix4 b i h e) = q (ix4 b i.rev h e) := by
  pointwise; simp
theorem rev256 (q : FVec Ideal S2x8192x8x256 .f32) (b : Fin 2) (h : Fin 8) (i: Fin 8192) (e : Fin 256) :
    (Host.reverse [1] q : FVec Ideal S2x8192x8x256 .f32) (ix4 b i h e) = q (ix4 b i.rev h e) := by
  pointwise; simp

theorem refLg0 (a3 : FVec Ideal S1x2x8 .f32) (h : Fin 8) : refLg ![0, 0] slices_S2x8_S1x8_0_0 a3 (ix1 h) = -Ideal.exp (a3 (ix3 0 0 h)) := by
  pointwise [refLg]
theorem refLg1 (a3 : FVec Ideal S1x2x8 .f32) (h : Fin 8) : refLg ![1, 0] slices_S2x8_S1x8_1_0 a3 (ix1 h) = -Ideal.exp (a3 (ix3 0 1 h)) := by
  pointwise [refLg]

/-- the two directions summed are the full retention, where queries, keys and values are reals. -/
theorem refO_at (q k : FVec Ideal S2x8192x8x128 .f32) (v : FVec Ideal S2x8192x8x256 .f32) (a3 : FVec Ideal S1x2x8 .f32)
    (b : Fin 2) (h : Fin 8) (Q K V : ℕ → ℕ → ℝ)
    (hq : ∀ (n : Fin 8192) (d : Fin 128), q (ix4 b n h d) = ((Q n.val d.val : ℝ) : EReal))
    (hk : ∀ (n : Fin 8192) (d : Fin 128), k (ix4 b n h d) = ((K n.val d.val : ℝ) : EReal))
    (hv : ∀ (n : Fin 8192) (e : Fin 256), v (ix4 b n h e) = ((V n.val e.val : ℝ) : EReal)) (n : Fin 8192) (e : Fin 256) :
    refO q k v a3 (ix4 b n h e)
      = ((total (decay (a3 (ix3 0 0 h))) (decay (a3 (ix3 0 1 h))) Q K (fun m => V m e.val) n.val : ℝ) : EReal) := by
  have e1 : refDir .sge (refLg ![0, 0] slices_S2x8_S1x8_0_0 a3) q k v (ix4 b n h e)
      = ((∑ m ∈ Finset.range 8192, (∑ d ∈ Finset.range 128, Q n.val d * K m d) * (if m ≤ n.val then decay (a3 (ix3 0 0 h)) ^ (n.val - m) else 0) * V m e.val : ℝ) : EReal) := by
    rw [refDir_at]
    refine coe_sum _ (fun m => (∑ d ∈ Finset.range 128, Q n.val d * K m d) * (if m ≤ n.val then decay (a3 (ix3 0 0 h)) ^ (n.val - m) else 0) * V m e.val) fun m => ?_
    rw [coe_sum _ (fun d => Q n.val d * K m.val d) fun d => by rw [hq, hk, ← EReal.coe_mul], refDecay_at, sge_dist n.isLt m.isLt, refLg0, exp_mul_nat, hv,
      EReal.coe_mul, EReal.coe_mul]
    split <;> rfl
  have e2 : refDir .sgt (refLg ![1, 0] slices_S2x8_S1x8_1_0 a3) (Host.reverse [1] q) (Host.reverse [1] k) (Host.reverse [1] v) (ix4 b n.rev h e)
      = ((∑ m ∈ Finset.range 8192, (∑ d ∈ Finset.range 128, Q n.val d * K (8191 - m) d) * (if m < 8191 - n.val then decay (a3 (ix3 0 1 h)) ^ (8191 - n.val - m) else 0) * V (8191 - m) e.val : ℝ) : EReal) := by
    rw [refDir_at]
    have hr : n.rev.val = 8191 - n.val := by rw [Fin.val_rev]; omega
    refine coe_sum _ (fun m => (∑ d ∈ Finset.range 128, Q n.val d * K (8191 - m) d) * (if m < 8191 - n.val then decay (a3 (ix3 0 1 h)) ^ (8191 - n.val - m) else 0) * V (8191 - m) e.val) fun m => ?_
    have hm : m.rev.val = 8191 - m.val := by rw [Fin.val_rev]; omega
    rw [coe_sum _ (fun d => Q n.val d * K (8191 - m.val) d) fun d => by rw [rev128, rev128, Fin.rev_rev, hq, hk, hm, ← EReal.coe_mul],
      refDecay_at, sgt_dist n.rev.isLt m.isLt, refLg1, exp_mul_nat, rev256, hv, hm, hr, EReal.coe_mul, EReal.coe_mul]
    split <;> rfl
  have e3 : refO q k v a3 (ix4 b n h e) = refDir .sge (refLg ![0, 0] slices_S2x8_S1x8_0_0 a3) q k v (ix4 b n h e)
      + refDir .sgt (refLg ![1, 0] slices_S2x8_S1x8_1_0 a3) (Host.reverse [1] q) (Host.reverse [1] k) (Host.reverse [1] v) (ix4 b n.rev h e) := by
    have r := rev256 (refDir .sgt (refLg ![1, 0] slices_S2x8_S1x8_1_0 a3) (Host.reverse [1] q) (Host.reverse [1] k) (Host.reverse [1] v)) b h n e
    rw [← r]; rfl
  rw [e3, e1, e2, ← EReal.coe_add, directions_total _ _ _ _ (fun m => V m e.val) _ n.isLt]

/-- a row less its mean, over the root of its mean square deviation. -/
def nrm (o : Fin 256 → EReal) (e : Fin 256) : EReal :=
  (o e - Ideal.div (∑ x, o x) (Ideal.ofBits FTy.f32 1132462080#32)) *
    Ideal.rsqrt (Ideal.div (∑ x, (o x - Ideal.div (∑ x, o x) (Ideal.ofBits FTy.f32 1132462080#32)) * (o x - Ideal.div (∑ x, o x) (Ideal.ofBits FTy.f32 1132462080#32)))
      (Ideal.ofBits FTy.f32 1132462080#32) + Ideal.ofBits FTy.f32 925353388#32)

/-- the reference's result at an index. -/
theorem REF_at (q k : FVec Ideal S2x8192x8x128 .f32) (v : FVec Ideal S2x8192x8x256 .f32) (a3 : FVec Ideal S1x2x8 .f32)
    (b : Fin 2) (h : Fin 8) (n : Fin 8192) (e : Fin 256) :
    REF q k v a3 (ix4 b h n e) = nrm (fun e => refO q k v a3 (ix4 b n h e)) e := by
  pointwise [REF, refCen, refMean]
  rfl

end Cert.Retention
end
-- ==== Proof.Ret.Block.lean ====
/-
  What one grid point of the retention call writes, over the extended reals: each chunk's outputs are the normalised rows
  of the full retention of that batch and head.
-/
module

public import proofs.«01_k».proof.Proof.Ret.Run
public import proofs.«01_k».proof.Proof.Ret.Ref
public import proofs.«01_k».proof.Proof.Ret.Words
public import Idealize.ShloMosaic.Lib.WholeRead

@[expose] public section

set_option maxRecDepth 16384

noncomputable section

open Idealize.ShloMosaic Idealize.ShloMosaic.TcCoe Idealize.SL.Sem
open Cert.KernelIdeal Cert.KernelIdeal.Gen Cert.Retention
open scoped BigOperators

namespace Cert.KernelIdeal.Value

/-! ## The loads at an index -/

theorem Qc_at (a : Memref sig .tc .vmem S1x1x8192x128 .bf16) (h : a.IsWhole) (x : Vec Ideal S1x1x8192x128 .bf16) (n : ℕ) (i : Fin 256) (d : Fin 128)
    (p : Fin 8192) (hn : n < 32) (hp : p.val = 256 * n + i.val) : Qc a h x n (ix4 0 0 i d) = x (ix4 0 0 p d) := by
  unfold Qc
  rw [Memref.IsWhole.readAt_unread]
  have := Nat.mod_eq_of_lt hn
  refine congrArg x (funext fun a => Fin.ext ((Rect.idx_unit_val _ _ _ _ a).trans ?_))
  fin_cases a <;> simp <;> omega
theorem Kc_at (a : Memref sig .tc .vmem S1x1x128x8192 .bf16) (h : a.IsWhole) (x : Vec Ideal S1x1x128x8192 .bf16) (n : ℕ) (d : Fin 128) (i : Fin 256)
    (p : Fin 8192) (hn : n < 32) (hp : p.val = 256 * n + i.val) : Kc a h x n (ix4 0 0 d i) = x (ix4 0 0 d p) := by
  unfold Kc
  rw [Memref.IsWhole.readAt_unread]
  have := Nat.mod_eq_of_lt hn
  refine congrArg x (funext fun a => Fin.ext ((Rect.idx_unit_val _ _ _ _ a).trans ?_))
  fin_cases a <;> simp <;> omega
theorem Vc_at (a : Memref sig .tc .vmem S1x1x8192x256 .bf16) (h : a.IsWhole) (x : Vec Ideal S1x1x8192x256 .bf16) (n : ℕ) (i : Fin 256) (e : Fin 256)
    (p : Fin 8192) (hn : n < 32) (hp : p.val = 256 * n + i.val) : Vc a h x n (ix4 0 0 i e) = x (ix4 0 0 p e) := by
  unfold Vc
  rw [Memref.IsWhole.readAt_unread]
  have := Nat.mod_eq_of_lt hn
  refine congrArg x (funext fun a => Fin.ext ((Rect.idx_unit_val _ _ _ _ a).trans ?_))
  fin_cases a <;> simp <;> omega

/-! ## The scratch read back -/

theorem mem_stores {F : FTy → Type} [FloatOps F] (f b : ℕ → FVec F S128x256 .f32) (p : View.Piece (Elt F) S32x256x256 .bf16) : ∀ N, p ∈ stores f b N ↔
    ∃ n < N, p = ⟨Rect.unit ![(31 - n) % 32, 128, 0] S1x128x256.size (inb_b (31 - n)), k0_pay24 (b n)⟩
      ∨ p = ⟨Rect.unit ![n % 32, 0, 0] S1x128x256.size (inb_f n), k0_pay23 (f n)⟩
  | 0 => by simp [stores]
  | N + 1 => by
    rw [stores, List.mem_cons, List.mem_cons, mem_stores f b p N]
    constructor
    · rintro (h | h | ⟨n, hn, h⟩)
      · exact ⟨N, by omega, .inl h⟩
      · exact ⟨N, by omega, .inr h⟩
      · exact ⟨n, by omega, h⟩
    · rintro ⟨n, hn, h⟩
      by_cases e : n = N
      · subst e; rcases h with h | h
        · exact .inl h
        · exact .inr (.inl h)
      · exact .inr (.inr ⟨n, by omega, h⟩)

theorem mem_outs {F : FTy → Type} [FloatOps F] (O : ℕ → FVec F S1x1x256x256 .bf16) (p : View.Piece (Elt F) S1x1x8192x256 .bf16) : ∀ N, p ∈ outs O N ↔
    ∃ n < N, p = ⟨Rect.unit ![0, 0, 256 * (n % 32), 0] S1x1x256x256.size (inb_v n), O n⟩
  | 0 => by simp [outs]
  | N + 1 => by
    rw [outs, List.mem_cons, mem_outs O p N]
    constructor
    · rintro (h | ⟨n, hn, h⟩)
      · exact ⟨N, by omega, h⟩
      · exact ⟨n, by omega, h⟩
    · rintro ⟨n, hn, h⟩
      by_cases e : n = N
      · subst e; exact .inl h
      · exact .inr ⟨n, by omega, h⟩

/-- the outputs stored, at an index: chunk `n`'s row `i`. -/
theorem outs_at (O : ℕ → FVec Ideal S1x1x256x256 .bf16) (n : ℕ) (hn : n < 32) (i e : Fin 256) (y : S1x1x8192x256.Idx)
    (hy : y = ix4 0 0 ⟨256 * n + i.val, by omega⟩ e) : View.canon (outs O 32) y = O n (ix4 0 0 i e) := by
  refine View.canon_eq_of_allAt _ _ _ ⟨_, (mem_outs O _ 32).2 ⟨n, hn, rfl⟩, ?_⟩ fun p hp => ?_
  · subst hy
    refine (Rect.mem_set_unit (inb := inb_v n)).mpr fun a => ?_
    have := Nat.mod_eq_of_lt hn
    fin_cases a <;> simp <;> omega
  · obtain ⟨k, hk, rfl⟩ := (mem_outs O p 32).1 hp
    intro x hx
    have hk' := Nat.mod_eq_of_lt hk
    rw [hy] at hx
    have h2 : 256 * (k % 32) + (x 2 : ℕ) = 256 * n + i.val := by
      have := congrArg (fun z : S1x1x8192x256.Idx => (z 2 : ℕ)) hx
      simpa [Rect.emb_apply] using this
    have h3 : (x 3 : ℕ) = e.val := by
      have := congrArg (fun z : S1x1x8192x256.Idx => (z 3 : ℕ)) hx
      simpa [Rect.emb_apply] using this
    have l2 : (x 2 : ℕ) < 256 := (x 2).isLt
    obtain rfl : k = n := by omega
    refine congrArg (O k) ?_
    blk_ext

theorem stores_f (f b : ℕ → FVec Ideal S128x256 .f32) (n : ℕ) (hn : n < 32) (d : Fin 128) (e : Fin 256) (y : S32x256x256.Idx)
    (hy : y = ix3 ⟨n, hn⟩ ⟨d.val, by omega⟩ e) : View.canon (stores f b 32) y = k0_pay23 (f n) (ix3 0 d e) := by
  refine View.canon_eq_of_allAt _ _ _ ⟨_, (mem_stores f b _ 32).2 ⟨n, hn, .inr rfl⟩, ?_⟩ fun p hp => ?_
  · subst hy
    refine (Rect.mem_set_unit (inb := inb_f n)).mpr fun a => ?_
    have := Nat.mod_eq_of_lt hn
    fin_cases a <;> simp <;> omega
  · obtain ⟨k, hk, rfl | rfl⟩ := (mem_stores f b p 32).1 hp
    · intro x hx
      rw [hy] at hx
      have := congrArg (fun z : S32x256x256.Idx => (z 1 : ℕ)) hx
      simp [Rect.emb_apply] at this
      omega
    · intro x hx
      have hk' := Nat.mod_eq_of_lt hk
      rw [hy] at hx
      have h0 : k % 32 + (x 0 : ℕ) = n := by
        have := congrArg (fun z : S32x256x256.Idx => (z 0 : ℕ)) hx
        simpa [Rect.emb_apply] using this
      have h1 : (x 1 : ℕ) = d.val := by
        have := congrArg (fun z : S32x256x256.Idx => (z 1 : ℕ)) hx
        simpa [Rect.emb_apply] using this
      have h2 : (x 2 : ℕ) = e.val := by
        have := congrArg (fun z : S32x256x256.Idx => (z 2 : ℕ)) hx
        simpa [Rect.emb_apply] using this
      have l0 : (x 0 : ℕ) < 1 := (x 0).isLt
      obtain rfl : k = n := by omega
      refine congrArg (k0_pay23 (f k)) ?_
      blk_ext

theorem stores_b (f b : ℕ → FVec Ideal S128x256 .f32) (n : ℕ) (hn : n < 32) (d : Fin 128) (e : Fin 256) (y : S32x256x256.Idx)
    (hy : y = ix3 ⟨n, hn⟩ ⟨128 + d.val, by omega⟩ e) : View.canon (stores f b 32) y = k0_pay24 (b (31 - n)) (ix3 0 d e) := by
  have e31 : 31 - (31 - n) = n := by omega
  refine View.canon_eq_of_allAt _ _ _ ⟨_, (mem_stores f b _ 32).2 ⟨31 - n, by omega, .inl rfl⟩, ?_⟩ fun p hp => ?_
  · subst hy
    refine (Rect.mem_set_unit (inb := inb_b (31 - (31 - n)))).mpr fun a => ?_
    have := Nat.mod_eq_of_lt hn
    fin_cases a <;> simp <;> omega
  · obtain ⟨k, hk, rfl | rfl⟩ := (mem_stores f b p 32).1 hp
    · intro x hx
      rw [hy] at hx
      have h0 : (31 - k) % 32 + (x 0 : ℕ) = n := by
        have := congrArg (fun z : S32x256x256.Idx => (z 0 : ℕ)) hx
        simpa [Rect.emb_apply] using this
      have h1 : (x 1 : ℕ) = d.val := by
        have := congrArg (fun z : S32x256x256.Idx => (z 1 : ℕ)) hx
        simpa [Rect.emb_apply] using this
      have h2 : (x 2 : ℕ) = e.val := by
        have := congrArg (fun z : S32x256x256.Idx => (z 2 : ℕ)) hx
        simpa [Rect.emb_apply] using this
      have l0 : (x 0 : ℕ) < 1 := (x 0).isLt
      obtain rfl : 31 - n = k := by omega
      refine congrArg (k0_pay24 (b (31 - n))) ?_
      blk_ext
    · intro x hx
      rw [hy] at hx
      have := congrArg (fun z : S32x256x256.Idx => (z 1 : ℕ)) hx
      have l1 : (x 1 : ℕ) < 128 := (x 1).isLt
      simp [Rect.emb_apply] at this
      omega

/-! ## The decay tables -/

section Tables
open kernelRun0_A
variable (c : Dev nD) (arg2 : Memref sig .tc .vmem S1x2x256 .f32) (harg2 : arg2.IsWhole) (x0 : Vec Ideal S1x2x256 .f32)

theorem raw_read : View.readAt (Elt Ideal) arg2.view (Rect.unit (s := S1x2x256) ![0, 0, 0] S1x2x256.size inb_S1x2x256_S1x2x256_0_0_0).toLoadRect (harg2.unread x0) = x0 := by
  funext j
  rw [Memref.IsWhole.readAt_unread]
  refine congrArg x0 (funext fun a => Fin.ext ((Rect.idx_unit_val _ _ _ _ a).trans ?_))
  fin_cases a <;> simp

theorem gf_eq : sl.r_5 c arg2 harg2 x0 = k0_pay15 (k0_pay3 x0) := congrArg (fun z => k0_pay15 (k0_pay3 z)) (raw_read arg2 harg2 x0)
theorem gb_eq : sl.r_6 c arg2 harg2 x0 = k0_pay16 (k0_pay4 x0) := congrArg (fun z => k0_pay16 (k0_pay4 z)) (raw_read arg2 harg2 x0)

theorem gf_at (A : EReal) (hA : ∀ j : Fin 256, x0 (ix3 0 0 j) = A) (e : Fin 256) : sl.r_5 c arg2 harg2 x0 (ix2 0 e) = ((decay A ^ 256 : ℝ) : EReal) := by
  rw [gf_eq]
  pointwise [k0_pay15, k0_pay3, k0_pay2]
  rw [hA, exp_mul_of A _ 256 (by rw [bits_256]; norm_num)]
theorem gb_at (B : EReal) (hB : ∀ j : Fin 256, x0 (ix3 0 1 j) = B) (e : Fin 256) : sl.r_6 c arg2 harg2 x0 (ix2 0 e) = ((decay B ^ 256 : ℝ) : EReal) := by
  rw [gb_eq]
  pointwise [k0_pay16, k0_pay4, k0_pay2]
  rw [hB, exp_mul_of B _ 256 (by rw [bits_256]; norm_num)]

theorem zf_at (arg9 : Memref sig .tc .vmem S2x128x256 .bf16) (A : EReal) (hA : ∀ j : Fin 256, x0 (ix3 0 0 j) = A) (d : Fin 128) (j : Fin 256) :
    sl.v93 c arg2 harg2 arg9 x0 (ix3 0 d j) = ((decay A ^ (255 - j.val) : ℝ) : EReal) := by
  have e : sl.v93 c arg2 harg2 arg9 x0 (ix3 0 d j) = k0_pay10 x0 (ix3 0 d j) := by
    unfold sl.v93 sl.HS2_2
    rw [raw_read, View.readCov_eq_canon']
    show View.canon _ ((Rect.unit (s := S2x128x256) ![0, 0, 0] S1x128x256.size inb_S2x128x256_S1x128x256_0_0_0).idx (ix3 0 d j)) = _
    have hy : (Rect.unit (s := S2x128x256) ![0, 0, 0] S1x128x256.size inb_S2x128x256_S1x128x256_0_0_0).idx (ix3 0 d j) = (ix3 0 d j : S2x128x256.Idx) :=
      funext fun a => Fin.ext ((Rect.idx_unit_val _ _ _ _ a).trans (by fin_cases a <;> simp))
    rw [hy]
    canon_tiles x h
    · simp at h0
    · refine congrArg (k0_pay10 x0) ?_
      simp at h1 h2; blk_ext
  rw [e]
  pointwise [k0_pay10, k0_pay7, k0_pay3, k0_pay2]
  have hj := j.isLt
  rw [hA, exp_mul_of A _ (255 - j.val)]
  rw [bits_255, pos_word (by omega), ← EReal.coe_sub, Nat.cast_sub (by omega)]; norm_num

theorem zb_at (arg9 : Memref sig .tc .vmem S2x128x256 .bf16) (B : EReal) (hB : ∀ j : Fin 256, x0 (ix3 0 1 j) = B) (d : Fin 128) (j : Fin 256) :
    sl.v99 c arg2 harg2 arg9 x0 (ix3 0 d j) = ((decay B ^ j.val : ℝ) : EReal) := by
  have e : sl.v99 c arg2 harg2 arg9 x0 (ix3 0 d j) = k0_pay12 k0_pay7 (k0_pay11 x0) (ix3 0 d j) := by
    unfold sl.v99 sl.HS2_2 sl.r_4
    rw [raw_read, View.readCov_eq_canon']
    show View.canon _ ((Rect.unit (s := S2x128x256) ![1, 0, 0] S1x128x256.size inb_S2x128x256_S1x128x256_1_0_0).idx (ix3 0 d j)) = _
    have hy : (Rect.unit (s := S2x128x256) ![1, 0, 0] S1x128x256.size inb_S2x128x256_S1x128x256_1_0_0).idx (ix3 0 d j) = (ix3 1 d j : S2x128x256.Idx) :=
      funext fun a => Fin.ext ((Rect.idx_unit_val _ _ _ _ a).trans (by fin_cases a <;> simp))
    rw [hy]
    canon_tiles x h
    · refine congrArg (k0_pay12 k0_pay7 (k0_pay11 x0)) ?_
      simp at h1 h2; blk_ext
    · simp at h0 x0_lt
  rw [e]
  pointwise [k0_pay12, k0_pay11, k0_pay7, k0_pay4, k0_pay2]
  have hj := j.isLt
  rw [hB, exp_mul_of B _ j.val (pos_word (by omega))]

theorem D_at (arg8 : Memref sig .tc .vmem S256x256 .f32) (A B : EReal) (hA : ∀ j : Fin 256, x0 (ix3 0 0 j) = A) (hB : ∀ j : Fin 256, x0 (ix3 0 1 j) = B) (i j : Fin 256) :
    sl.v1396 c arg2 harg2 arg8 x0 (ix2 i j) = ((if j.val ≤ i.val then decay A ^ (i.val - j.val) else decay B ^ (j.val - i.val) : ℝ) : EReal) := by
  have e : sl.v1396 c arg2 harg2 arg8 x0 = k0_pay5 x0 := by
    unfold sl.v1396 sl.HS1_1
    rw [raw_read]
    exact View.readCov_unit_lit' _ _ _ (by decide)
  rw [e]
  pointwise [k0_pay5, k0_pay3, k0_pay4, k0_pay2]
  have hi := i.isLt
  have hj := j.isLt
  rw [hA, hB, sge_word (by omega) (by omega), exp_mul_of A _ _ (dist_word (by omega) (by omega)), exp_mul_of B _ _ (dist_word (by omega) (by omega))]
  split <;> rfl

theorem xf_at (arg10 : Memref sig .tc .vmem S256x256 .bf16) (A : EReal) (hA : ∀ j : Fin 256, x0 (ix3 0 0 j) = A) (i : Fin 256) (d : Fin 128) (k : Fin 256) (hk : k.val = d.val) :
    sl.v1400 c arg2 harg2 arg10 x0 (ix2 i k) = ((decay A ^ (i.val + 1) : ℝ) : EReal) := by
  have e : sl.v1400 c arg2 harg2 arg10 x0 (ix2 i k) = k0_pay13 k0_pay6 (k0_pay8 x0) (ix2 i d) := by
    unfold sl.v1400 sl.HS3_2 sl.r_2 sl.r_3
    rw [raw_read, View.readCov_eq_canon']
    show View.canon _ ((Rect.unit (s := S256x256) ![0, 0] S256x256.size inb_S256x256_S256x256_0_0).idx (ix2 i k)) = _
    have hy : (Rect.unit (s := S256x256) ![0, 0] S256x256.size inb_S256x256_S256x256_0_0).idx (ix2 i k) = (ix2 i k : S256x256.Idx) :=
      funext fun a => Fin.ext ((Rect.idx_unit_val _ _ _ _ a).trans (by fin_cases a <;> simp))
    rw [hy]
    canon_tiles x h
    · simp at h1; omega
    · refine congrArg (k0_pay13 k0_pay6 (k0_pay8 x0)) ?_
      simp at h0 h1; blk_ext
  rw [e]
  pointwise [k0_pay13, k0_pay6, k0_pay8, k0_pay3, k0_pay2]
  have hi := i.isLt
  rw [hA, exp_mul_of A _ (i.val + 1)]
  rw [pos_word (by omega), ← EReal.coe_one, ← EReal.coe_add]; norm_num

theorem xb_at (arg10 : Memref sig .tc .vmem S256x256 .bf16) (B : EReal) (hB : ∀ j : Fin 256, x0 (ix3 0 1 j) = B) (i : Fin 256) (d : Fin 128) (k : Fin 256) (hk : k.val = 128 + d.val) :
    sl.v1400 c arg2 harg2 arg10 x0 (ix2 i k) = ((decay B ^ (256 - i.val) : ℝ) : EReal) := by
  have e : sl.v1400 c arg2 harg2 arg10 x0 (ix2 i k) = k0_pay14 k0_pay6 (k0_pay9 x0) (ix2 i d) := by
    unfold sl.v1400 sl.HS3_2 sl.r_2 sl.r_3
    rw [raw_read, View.readCov_eq_canon']
    show View.canon _ ((Rect.unit (s := S256x256) ![0, 0] S256x256.size inb_S256x256_S256x256_0_0).idx (ix2 i k)) = _
    have hy : (Rect.unit (s := S256x256) ![0, 0] S256x256.size inb_S256x256_S256x256_0_0).idx (ix2 i k) = (ix2 i k : S256x256.Idx) :=
      funext fun a => Fin.ext ((Rect.idx_unit_val _ _ _ _ a).trans (by fin_cases a <;> simp))
    rw [hy]
    canon_tiles x h
    · refine congrArg (k0_pay14 k0_pay6 (k0_pay9 x0)) ?_
      simp at h0 h1; blk_ext
    · simp at h1 x1_lt; omega
  rw [e]
  pointwise [k0_pay14, k0_pay6, k0_pay9, k0_pay4, k0_pay2]
  have hi := i.isLt
  rw [hB, exp_mul_of B _ (256 - i.val)]
  rw [bits_256, pos_word (by omega), ← EReal.coe_sub, Nat.cast_sub (by omega)]; norm_num

end Tables

/-! ## The states -/

theorem fwd_at (a : ℝ) (k v : ℕ → ℕ → ℝ) (g : FVec Ideal S1x256 .f32) (z : Vec Ideal S1x128x256 .bf16) (K : ℕ → Vec Ideal S1x1x128x256 .bf16) (V : ℕ → Vec Ideal S1x1x256x256 .bf16)
    (d : Fin 128) (e : Fin 256) (hg : g (ix2 0 e) = ((a ^ 256 : ℝ) : EReal)) (hz : ∀ j : Fin 256, z (ix3 0 d j) = ((a ^ (255 - j.val) : ℝ) : EReal))
    (hK : ∀ n < 32, ∀ j : Fin 256, K n (ix4 0 0 d j) = ((k (256 * n + j.val) d.val : ℝ) : EReal))
    (hV : ∀ n < 32, ∀ j : Fin 256, V n (ix4 0 0 j e) = ((v (256 * n + j.val) e.val : ℝ) : EReal)) :
    ∀ n ≤ 32, fwd g z K V n (ix2 d e) = ((fstate a (fun m => k m d.val) (fun m => v m e.val) n : ℝ) : EReal)
  | 0, _ => by
    rw [fwd, fstate]
    pointwise [k0_pay17]
    simp
  | n + 1, hn => by
    rw [fwd]
    pointwise [k0_pay21]
    rw [fwd_at a k v g z K V d e hg hz hK hV n (by omega), hg,
      coe_sum _ (fun j => k (256 * n + j) d.val * a ^ (255 - j) * v (256 * n + j) e.val) (fun j => by
        rw [hK n (by omega), hz, hV n (by omega), ← EReal.coe_mul, ← EReal.coe_mul]),
      ← EReal.coe_mul, ← EReal.coe_add, fstate]

theorem bwd_at (b : ℝ) (k v : ℕ → ℕ → ℝ) (g : FVec Ideal S1x256 .f32) (z : Vec Ideal S1x128x256 .bf16) (K : ℕ → Vec Ideal S1x1x128x256 .bf16) (V : ℕ → Vec Ideal S1x1x256x256 .bf16)
    (d : Fin 128) (e : Fin 256) (hg : g (ix2 0 e) = ((b ^ 256 : ℝ) : EReal)) (hz : ∀ j : Fin 256, z (ix3 0 d j) = ((b ^ j.val : ℝ) : EReal))
    (hK : ∀ n < 32, ∀ j : Fin 256, K n (ix4 0 0 d j) = ((k (256 * n + j.val) d.val : ℝ) : EReal))
    (hV : ∀ n < 32, ∀ j : Fin 256, V n (ix4 0 0 j e) = ((v (256 * n + j.val) e.val : ℝ) : EReal)) :
    ∀ n ≤ 32, bwd g z K V n (ix2 d e) = ((bstate b (fun m => k m d.val) (fun m => v m e.val) n : ℝ) : EReal)
  | 0, _ => by
    rw [bwd, bstate]
    pointwise [k0_pay17]
    simp
  | n + 1, hn => by
    rw [bwd]
    pointwise [k0_pay22]
    rw [bwd_at b k v g z K V d e hg hz hK hV n (by omega), hg,
      coe_sum _ (fun j => k (256 * (31 - n) + j) d.val * b ^ j * v (256 * (31 - n) + j) e.val) (fun j => by
        rw [hK (31 - n) (by omega), hz, hV (31 - n) (by omega), ← EReal.coe_mul, ← EReal.coe_mul]),
      ← EReal.coe_mul, ← EReal.coe_add, bstate]

/-! ## The outputs -/

/-- one chunk's outputs at an index: the normalised row of the chunk's own scores on its values and the decayed queries on the two states. -/
theorem outc_at (q : Vec Ideal S1x1x256x128 .bf16) (k : Vec Ideal S1x1x128x256 .bf16) (D : Vec Ideal S256x256 .f32) (X : Vec Ideal S256x256 .bf16)
    (v : Vec Ideal S1x1x256x256 .bf16) (r : Vec Ideal S1x256x256 .bf16) (i e : Fin 256) :
    outc q k D X v r (ix4 0 0 i e) = nrm (fun e =>
      ∑ x : Fin 256, (∑ d : Fin 128, q (ix4 0 0 i d) * k (ix4 0 0 d x)) * D (ix2 i x) * v (ix4 0 0 x e) +
        (∑ x : Fin 128, q (ix4 0 0 i x) * X (ix2 i ⟨x.val, by omega⟩) * r (ix3 0 ⟨x.val, by omega⟩ e) +
          ∑ x : Fin 128, q (ix4 0 0 i x) * X (ix2 i ⟨128 + x.val, by omega⟩) * r (ix3 0 ⟨128 + x.val, by omega⟩ e))) e := by
  pointwise [outc, k0_pay193, k0_pay191, k0_pay192]
  rfl

section Point
open kernelRun0_A
variable (c : Dev nD) (gi : grid0.Coords) (arg2 : Memref sig .tc .vmem S1x2x256 .f32) (harg2 : arg2.IsWhole) (arg3 : Memref sig .tc .vmem S1x1x8192x128 .bf16) (harg3 : arg3.IsWhole)
  (arg4 : Memref sig .tc .vmem S1x1x128x8192 .bf16) (harg4 : arg4.IsWhole)
  (arg5 : Memref sig .tc .vmem S1x1x8192x256 .bf16) (harg5 : arg5.IsWhole) (arg6 : Memref sig .tc .vmem S1x1x8192x256 .bf16) (harg6 : arg6.IsWhole)
  (arg7 : Memref sig .tc .vmem S32x256x256 .bf16) (harg7 : arg7.IsWhole) (arg8 : Memref sig .tc .vmem S256x256 .f32) (harg8 : arg8.IsWhole)
  (arg9 : Memref sig .tc .vmem S2x128x256 .bf16) (harg9 : arg9.IsWhole) (arg10 : Memref sig .tc .vmem S256x256 .bf16) (harg10 : arg10.IsWhole)
  (x0 : Vec Ideal S1x2x256 .f32) (x1 : Vec Ideal S1x1x8192x128 .bf16) (x2 : Vec Ideal S1x1x128x8192 .bf16) (x3 : Vec Ideal S1x1x8192x256 .bf16)
  (A B : EReal) (q k v : ℕ → ℕ → ℝ) (hA : ∀ j : Fin 256, x0 (ix3 0 0 j) = A) (hB : ∀ j : Fin 256, x0 (ix3 0 1 j) = B)
  (hq : ∀ (n : Fin 8192) (d : Fin 128), x1 (ix4 0 0 n d) = ((q n.val d.val : ℝ) : EReal))
  (hk : ∀ (n : Fin 8192) (d : Fin 128), x2 (ix4 0 0 d n) = ((k n.val d.val : ℝ) : EReal))
  (hv : ∀ (n : Fin 8192) (e : Fin 256), x3 (ix4 0 0 n e) = ((v n.val e.val : ℝ) : EReal))
include hA hB hq hk hv

/-- the forward half of chunk `n`'s stored state. -/
theorem state_f (n : ℕ) (hn : n < 32) (d : Fin 128) (e : Fin 256) :
    Sc arg7 (sl.HS0_64 c arg2 harg2 arg4 harg4 arg5 harg5 arg9 x0 x2 x3) n (ix3 0 ⟨d.val, by omega⟩ e)
      = ((fstate (decay A) (fun m => k m d.val) (fun m => v m e.val) n : ℝ) : EReal) := by
  unfold Sc
  rw [View.readCov_eq_canon', stores_eq]
  refine (stores_f _ _ n hn d e _ (funext fun a => Fin.ext ((Rect.idx_unit_val _ _ _ _ a).trans ?_))).trans ?_
  · have := Nat.mod_eq_of_lt hn
    fin_cases a <;> simp <;> omega
  · pointwise [k0_pay23]
    refine fwd_at (decay A) k v _ _ _ _ d e (gf_at c arg2 harg2 x0 A hA e) (zf_at c arg2 harg2 x0 arg9 A hA d) (fun n hn j => ?_) (fun n hn j => ?_) n (by omega)
    · rw [Kc_at arg4 harg4 x2 n d j ⟨256 * n + j.val, by omega⟩ hn rfl, hk]
    · rw [Vc_at arg5 harg5 x3 n j e ⟨256 * n + j.val, by omega⟩ hn rfl, hv]

/-- the backward half of chunk `n`'s stored state. -/
theorem state_b (n : ℕ) (hn : n < 32) (d : Fin 128) (e : Fin 256) :
    Sc arg7 (sl.HS0_64 c arg2 harg2 arg4 harg4 arg5 harg5 arg9 x0 x2 x3) n (ix3 0 ⟨128 + d.val, by omega⟩ e)
      = ((bstate (decay B) (fun m => k m d.val) (fun m => v m e.val) (31 - n) : ℝ) : EReal) := by
  unfold Sc
  rw [View.readCov_eq_canon', stores_eq]
  refine (stores_b _ _ n hn d e _ (funext fun a => Fin.ext ((Rect.idx_unit_val _ _ _ _ a).trans ?_))).trans ?_
  · have := Nat.mod_eq_of_lt hn
    fin_cases a <;> simp <;> omega
  · pointwise [k0_pay24]
    refine bwd_at (decay B) k v _ _ _ _ d e (gb_at c arg2 harg2 x0 B hB e) (zb_at c arg2 harg2 x0 arg9 B hB d) (fun n hn j => ?_) (fun n hn j => ?_) (31 - n) (by omega)
    · rw [Kc_at arg4 harg4 x2 n d j ⟨256 * n + j.val, by omega⟩ hn rfl, hk]
    · rw [Vc_at arg5 harg5 x3 n j e ⟨256 * n + j.val, by omega⟩ hn rfl, hv]

/-- what a grid point writes: at position `256 n + i`, the normalised row of the full retention. -/
theorem block_at (n : ℕ) (hn : n < 32) (i e : Fin 256) (y : S1x1x8192x256.Idx) (hy : y = ix4 0 0 ⟨256 * n + i.val, by omega⟩ e) :
    out0_A_4 c gi arg2 harg2 arg3 harg3 arg4 harg4 arg5 harg5 arg6 harg6 arg7 harg7 arg8 harg8 arg9 harg9 arg10 harg10 x0 x1 x2 x3 y
      = nrm (fun e => ((total (decay A) (decay B) q k (fun m => v m e.val) (256 * n + i.val) : ℝ) : EReal)) e := by
  have hQ : ∀ d : Fin 128, Qc arg3 harg3 x1 n (ix4 0 0 i d) = ((q (256 * n + i.val) d.val : ℝ) : EReal) := fun d => by
    rw [Qc_at arg3 harg3 x1 n i d ⟨256 * n + i.val, by omega⟩ hn rfl, hq]
  have hK : ∀ (d : Fin 128) (j : Fin 256), Kc arg4 harg4 x2 n (ix4 0 0 d j) = ((k (256 * n + j.val) d.val : ℝ) : EReal) := fun d j => by
    rw [Kc_at arg4 harg4 x2 n d j ⟨256 * n + j.val, by omega⟩ hn rfl, hk]
  have hV : ∀ (j e : Fin 256), Vc arg5 harg5 x3 n (ix4 0 0 j e) = ((v (256 * n + j.val) e.val : ℝ) : EReal) := fun j e => by
    rw [Vc_at arg5 harg5 x3 n j e ⟨256 * n + j.val, by omega⟩ hn rfl, hv]
  unfold out0_A_4
  rw [View.read_writes_junk_eq_canon, outs_eq, outs_at _ n hn i e y hy, outc_at]
  congr 1; funext e
  rw [← chunk_total (decay A) (decay B) q k (fun m => v m e.val) n i.val hn i.isLt, EReal.coe_add, EReal.coe_add]
  refine congrArg₂ (· + ·) ?_ (congrArg₂ (· + ·) ?_ ?_)
  · refine coe_sum _ _ fun j => ?_
    rw [coe_sum _ (fun d => q (256 * n + i.val) d * k (256 * n + j.val) d) fun d => by rw [hQ, hK, ← EReal.coe_mul],
      D_at c arg2 harg2 x0 arg8 A B hA hB i j, hV, ← EReal.coe_mul, ← EReal.coe_mul]
  · refine coe_sum _ (fun d => q (256 * n + i.val) d * decay A ^ (i.val + 1) * fstate (decay A) (fun m => k m d) (fun m => v m e.val) n) fun d => ?_
    rw [hQ, xf_at c arg2 harg2 x0 arg10 A hA i d _ rfl,
      state_f c arg2 harg2 arg4 harg4 arg5 harg5 arg7 arg9 x0 x1 x2 x3 A B q k v hA hB hq hk hv n hn d e, ← EReal.coe_mul, ← EReal.coe_mul]
  · refine coe_sum _ (fun d => q (256 * n + i.val) d * decay B ^ (256 - i.val) * bstate (decay B) (fun m => k m d) (fun m => v m e.val) (31 - n)) fun d => ?_
    rw [hQ, xb_at c arg2 harg2 x0 arg10 B hB i d _ rfl,
      state_b c arg2 harg2 arg4 harg4 arg5 harg5 arg7 arg9 x0 x1 x2 x3 A B q k v hA hB hq hk hv n hn d e, ← EReal.coe_mul, ← EReal.coe_mul]
end Point

end Cert.KernelIdeal.Value
end
-- ==== Proof.Ret.Value.lean ====
/-
  The value of the retention call over the extended reals: where queries, keys and values are reals, the array it writes is
  the reference's result.
-/
module

public import proofs.«01_k».proof.Proof.Ret.Block
public import proofs.«01_k».proof.Proof.Ret.Ref

@[expose] public section

set_option maxRecDepth 16384

noncomputable section

open Idealize.ShloMosaic Idealize.ShloMosaic.TcCoe Idealize.SL.Sem
open Idealize.ShloMosaic.Pipeline (Dat)
open Cert.KernelIdeal Cert.KernelIdeal.Gen Cert.Retention
open scoped BigOperators

namespace Cert.KernelIdeal.Value

variable (m : (ℓ : Loc nD τ sig) → Buf (Elt Ideal) ℓ)

/-- the reals of an array of queries, keys or values at a batch and head, by position and feature. -/
def slab {w : ℕ} [NeZero w] (a : FVec Ideal ⟨4, ![2, 8192, 8, w]⟩ .f32) (b : Fin 2) (h : Fin 8) (n d : ℕ) : ℝ :=
  EReal.toReal (a (ix4 b (Fin.ofNat 8192 n) h (Fin.ofNat w d)))

theorem slab_at {w : ℕ} [NeZero w] (a : FVec Ideal ⟨4, ![2, 8192, 8, w]⟩ .f32) (ha : ∀ i, a i = ((EReal.toReal (a i) : ℝ) : EReal))
    (b : Fin 2) (h : Fin 8) (n : Fin 8192) (d : Fin w) : a (ix4 b n h d) = ((slab a b h n.val d.val : ℝ) : EReal) := by
  unfold slab
  rw [Fin.ofNat_val_eq_self, Fin.ofNat_val_eq_self]
  exact ha _

theorem idx_val : ∀ t : Fin cfg0.N, win0_0.index t = ![t.val % 8, 0, 0]
    ∧ win0_1.index t = ![t.val / 8, t.val % 8, 0, 0]
    ∧ win0_2.index t = ![t.val / 8, t.val % 8, 0, 0]
    ∧ win0_3.index t = ![t.val / 8, t.val % 8, 0, 0]
    ∧ win0_4.index t = ![t.val / 8, t.val % 8, 0, 0] :=
  (by decide +kernel : ∀ t : Fin grid0.N, _)

/-- a point's blocks are its head's logits of decay and its batch and head's queries, keys (transposed) and values. -/
theorem blk0 (c : Dev nD) (t : Fin cfg0.N) (r : Fin 2) (j : Fin 256) (h : Fin 8) (hh : h.val = t.val % 8) :
    iblk m c 0 t (ix3 0 r j) = m ((c : Thread nD τ).loc main_arg3) (ix3 0 r h) := by
  blk_simp [iblk]; entry_read; pointwise; blk_ext [idx_val t]
theorem blk1 (c : Dev nD) (t : Fin cfg0.N) (n : Fin 8192) (d : Fin 128) (b : Fin 2) (h : Fin 8) (hb : b.val = t.val / 8) (hh : h.val = t.val % 8) :
    iblk m c 1 t (ix4 0 0 n d) = m ((c : Thread nD τ).loc main_arg0) (ix4 b n h d) := by
  blk_simp [iblk]; entry_read; pointwise; blk_ext [idx_val t]
theorem blk2 (c : Dev nD) (t : Fin cfg0.N) (n : Fin 8192) (d : Fin 128) (b : Fin 2) (h : Fin 8) (hb : b.val = t.val / 8) (hh : h.val = t.val % 8) :
    iblk m c 2 t (ix4 0 0 d n) = m ((c : Thread nD τ).loc main_arg1) (ix4 b n h d) := by
  blk_simp [iblk]; entry_read; pointwise; blk_ext [idx_val t]
theorem blk3 (c : Dev nD) (t : Fin cfg0.N) (n : Fin 8192) (d : Fin 256) (b : Fin 2) (h : Fin 8) (hb : b.val = t.val / 8) (hh : h.val = t.val % 8) :
    iblk m c 3 t (ix4 0 0 n d) = m ((c : Thread nD τ).loc main_arg2) (ix4 b n h d) := by
  blk_simp [iblk]; entry_read; pointwise; blk_ext [idx_val t]

/-- the array the call writes is the reference's result. -/
theorem final (c : Dev nD)
    (hq : ∀ i, m ((c : Thread nD τ).loc main_arg0) i = ((EReal.toReal (m ((c : Thread nD τ).loc main_arg0) i) : ℝ) : EReal))
    (hk : ∀ i, m ((c : Thread nD τ).loc main_arg1) i = ((EReal.toReal (m ((c : Thread nD τ).loc main_arg1) i) : ℝ) : EReal))
    (hv : ∀ i, m ((c : Thread nD τ).loc main_arg2) i = ((EReal.toReal (m ((c : Thread nD τ).loc main_arg2) i) : ℝ) : EReal)) :
    (dats m 0 c).arrAt 4 (cfgs 0).N = REF (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  refine (congrFun (flushed4_A m c t) y).trans ?_
  have hN : t.val < 16 := t.isLt
  have hb : t.val / 8 < 2 := by omega
  have hh : t.val % 8 < 8 := by omega
  have e : ∀ (n : Fin 8192) (j : Fin 256), n.val = (y 2).val → j.val = (y 3).val →
      ((cfg0.win 4).blk t).view.emb y = ix4 ⟨t.val / 8, hb⟩ ⟨t.val % 8, hh⟩ n j := fun n j hn hj => by
    blk_ext [idx_val t]
  blk_simp
  generalize ((cfg0.win 4).blk t).view.emb y = z at e ⊢
  have h0 : (y 0).val < 1 := (y 0).isLt
  have h1 : (y 1).val < 1 := (y 1).isLt
  have h2 : (y 2).val < 8192 := (y 2).isLt
  have h3 : (y 3).val < 256 := (y 3).isLt
  rw [e ⟨(y 2).val, h2⟩ ⟨(y 3).val, h3⟩ rfl rfl, REF_at]
  have hd : 256 * ((y 2).val / 256) + (y 2).val % 256 = (y 2).val := by omega
  refine Eq.trans (block_at _ _ _ _ _ _ _ _ _ _ _ _ _ _ _ _ _ _ _ _ _ _ _ _
    (m ((c : Thread nD τ).loc main_arg3) (ix3 0 0 ⟨t.val % 8, hh⟩)) (m ((c : Thread nD τ).loc main_arg3) (ix3 0 1 ⟨t.val % 8, hh⟩))
    (slab (w := 128) (m ((c : Thread nD τ).loc main_arg0)) ⟨t.val / 8, hb⟩ ⟨t.val % 8, hh⟩)
    (slab (w := 128) (m ((c : Thread nD τ).loc main_arg1)) ⟨t.val / 8, hb⟩ ⟨t.val % 8, hh⟩)
    (slab (w := 256) (m ((c : Thread nD τ).loc main_arg2)) ⟨t.val / 8, hb⟩ ⟨t.val % 8, hh⟩)
    (fun j => blk0 m c t 0 j _ rfl) (fun j => blk0 m c t 1 j _ rfl)
    (fun n d => (blk1 m c t n d _ _ rfl rfl).trans (slab_at (w := 128) _ hq _ _ n d))
    (fun n d => (blk2 m c t n d _ _ rfl rfl).trans (slab_at (w := 128) _ hk _ _ n d))
    (fun n d => (blk3 m c t n d _ _ rfl rfl).trans (slab_at (w := 256) _ hv _ _ n d))
    ((y 2).val / 256) (by omega) ⟨(y 2).val % 256, by omega⟩ ⟨(y 3).val, h3⟩ _ (by blk_ext)) ?_
  congr 1; funext e
  rw [refO_at _ _ _ _ _ _ _ _ _ (slab_at (w := 128) _ hq _ _) (slab_at (w := 128) _ hk _ _) (slab_at (w := 256) _ hv _ _)]
  simp only [hd]

end Cert.KernelIdeal.Value
end
-- ==== Proof.Ret.Finite.lean ====
/-
  What the claim's precondition says: every query, key and value is a real number.
-/
module

public import proofs.«01_k».proof.Pre_finite
public import Idealize.ShloMosaic.Lib.ReduceAll
public import Idealize.ShloMosaic.Lib.Pipeline.ValueKit

@[expose] public section

noncomputable section

open Idealize.ShloMosaic Idealize.SL.Sem
open Cert.Pre_finite

namespace Cert.Retention

instance : Subsingleton S_.Idx := ⟨fun _ _ => funext fun i => i.elim0⟩

/-- an extended real whose absolute value compares below infinity is a real. -/
theorem real_of_olt {s : Shape} (x y : FVec Ideal s .f32) (i : s.Idx) (hy : y i = Ideal.ofBits .f32 0x7F800000#32)
    (h : cmpf .olt (Host.absf x) y i = 1#1) : x i = ((EReal.toReal (x i) : ℝ) : EReal) := by
  have h' : Ideal.cmp .olt (max (x i) (-(x i))) (y i) = 1#1 := h
  have top : Ideal.ofBits FTy.f32 0x7F800000#32 = ⊤ := by simp [Ideal.ofBits, Ideal.ieee]
  rw [hy, top] at h'
  have h2 : max (x i) (-(x i)) < ⊤ := by
    by_contra hn
    simp only [Ideal.cmp, decide_eq_false hn] at h'
    exact absurd h' (by decide)
  rw [max_lt_iff] at h2
  refine (EReal.coe_toReal h2.1.ne fun hb => ?_).symm
  rw [hb] at h2
  exact absurd h2.2 (by simp)

variable [Facts]

/-- where the precondition holds, all three arrays are of reals. -/
theorem real_of_finite (q k : FVec Ideal S2x8192x8x128 .f32) (v : FVec Ideal S2x8192x8x256 .f32) (r : FVec Ideal S1x2x8 .f32)
    (h : fn (F := Ideal) q k v r = fun _ => 1#1) :
    (∀ i, q i = ((EReal.toReal (q i) : ℝ) : EReal)) ∧ (∀ i, k i = ((EReal.toReal (k i) : ℝ) : EReal))
      ∧ (∀ i, v i = ((EReal.toReal (v i) : ℝ) : EReal)) := by
  have e := congrFun h (fun i => i.elim0)
  have and1 : ∀ a b : BitVec 1, IntOp.andi a b = 1#1 → a = 1#1 ∧ b = 1#1 := by decide
  obtain ⟨e1, e2⟩ := and1 _ _ e
  obtain ⟨e0, e1⟩ := and1 _ _ e1
  refine ⟨fun i => ?_, fun i => ?_, fun i => ?_⟩
  · exact real_of_olt _ _ _ rfl (Host.reduce_andi_all _ _ _ _ _ e0 i)
  · exact real_of_olt _ _ _ rfl (Host.reduce_andi_all _ _ _ _ _ e1 i)
  · exact real_of_olt _ _ _ rfl (Host.reduce_andi_all _ _ _ _ _ e2 i)

end Cert.Retention
end
-- ==== Proof.Ret.Claim.lean ====
/-
  The value claim of the retention call: over the extended reals, where queries, keys and values are reals, the call and its
  reference compute the same normalised retention of the same arguments.
-/
module

public import proofs.«01_k».proof.Defs
public import proofs.«01_k».proof.Proof.Gen.KernelIdeal.Frame
public import proofs.«01_k».proof.Proof.Ret.Value
public import proofs.«01_k».proof.Proof.Ret.Finite
public import Idealize.ShloMosaic.Lib.Claim

@[expose] public section

set_option maxRecDepth 16384

noncomputable section

namespace Cert.Proof

open Idealize.ShloMosaic Idealize.SL.Sem

/-- the predicate's shapes broadcast and reduce as it writes them. -/
theorem finite_facts : Cert.Pre_finite.Facts where
  bcast_S_S2x8192x8x128 := by decide
  reducesTo_S2x8192x8x128_S_d0_1_2_3 := by decide
  h_S_ := by decide
  bcast_S_S2x8192x8x256 := by decide
  reducesTo_S2x8192x8x256_S_d0_1_2_3 := by decide

/-- the retention reference's run read at its arguments; it declares no semaphore. -/
theorem frame_reference : Cert.quiescent_ReferenceIdeal := fun m ρ _ =>
  (θ_run Cert.ReferenceIdeal.defs _ _).mono
    (fun r h => ⟨fun c => (h c).2, sem_eq_zero_of_no_sems (by decide) r.2⟩) (Cert.ReferenceIdeal.Value.run m ρ)

/-- the retention call computes its reference's function of the same arguments, where the precondition holds. -/
theorem algebraic_retention : Cert.algebraic_KernelIdeal_ReferenceIdeal_pre_finite (hPre_finite := finite_facts) := by
  pair_intro
  · run_from Cert.KernelIdeal.Gen.run_main m g
  · run_from Cert.ReferenceIdeal.Value.run m' g'
    refine (Cert.Retention.res_eq m' c).trans ?_
    obtain ⟨e0, e1, e2, e3⟩ := hagree c
    rw [e0, e1, e2, e3]
    obtain ⟨hq, hk, hv⟩ := (@Cert.Retention.real_of_finite finite_facts _ _ _ _ (hpre c))
    exact (Cert.KernelIdeal.Value.final m c hq hk hv).symm

end Cert.Proof

end
-- ==== Proof.lean ====
/-
  The certificate: the retention call, the MLP call and the merge call of one layer, each beside its lines of the
  reference. The frames of the calls are the generated ones; the value claims are in the modules of each call.
-/
module

public import proofs.«01_k».proof.Defs
public import proofs.«01_k».proof.Proof.Gen.Kernel.Frame
public import proofs.«01_k».proof.Proof.Gen.KernelIdeal.Frame
public import proofs.«01_k».proof.Proof.Gen.Merge.Frame
public import proofs.«01_k».proof.Proof.Gen.MergeIdeal.Frame
public import proofs.«01_k».proof.Proof.Gen.MergeReferenceIdeal.Run
public import proofs.«01_k».proof.Proof.Merge.Claim
public import proofs.«01_k».proof.Proof.Mlp.Claim
public import proofs.«01_k».proof.Proof.Ret.Claim
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts,
    Cert.Mlp.Gen.facts, Cert.MlpIdeal.Gen.facts, Cert.MlpReferenceIdeal.Gen.facts,
    Cert.Merge.Gen.facts, Cert.MergeIdeal.Gen.facts, Cert.MergeReferenceIdeal.Gen.facts, finite_facts,
    fun m ρ _ => Cert.Kernel.Gen.frame m ρ,
    fun m ρ _ => Cert.KernelIdeal.Gen.frame m ρ,
    fun m ρ _ => Cert.KernelIdeal.Gen.frame m ρ,
    frame_reference,
    fun m ρ _ => frame_reference m ρ trivial,
    fun m ρ _ => Cert.Mlp.Gen.frame m ρ,
    fun m ρ _ => Cert.MlpIdeal.Gen.frame m ρ,
    frame_mlp_reference,
    fun m ρ _ => Cert.Merge.Gen.frame m ρ,
    fun m ρ _ => Cert.MergeIdeal.Gen.frame m ρ,
    frame_merge_reference,
    trivial, algebraic_retention, trivial, algebraic_mlp, trivial, algebraic_merge⟩

end Cert.Proof

end
